-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2 = (fun _ => 1#1)

def Pre_Kernel3 [hPre_fits : Cert.Pre_fits.Facts] (m : (ℓ : Loc Cert.Kernel3.nD Cert.Kernel3.τ Cert.Kernel3.sig) → Buf (Elt Bits) ℓ) : Prop :=
  ∀ c : Dev Cert.Kernel3.nD,
    (Cert.Pre_fits.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))) = (fun _ => 1#1)

def Pre_Kernel3Ideal [hPre_fits : Cert.Pre_fits.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_fits.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Kernel3Ideal_ranked [hPre_ranked : Cert.Pre_ranked.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_ranked.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_ranked.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_ranked.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_ranked.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_ranked [hPre_ranked : Cert.Pre_ranked.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_ranked.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_ranked.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_ranked.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_ranked.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_fits : Cert.Pre_fits.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_fits : Cert.Pre_fits.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_ranked [hKernel3Ideal : Cert.Kernel3Ideal.Facts] [hPre_ranked : Cert.Pre_ranked.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_ranked m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_ranked [hReference3Ideal : Cert.Reference3Ideal.Facts] [hPre_ranked : Cert.Pre_ranked.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_ranked m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_ranked [hKernel3Ideal : Cert.Kernel3Ideal.Facts] [hReference3Ideal : Cert.Reference3Ideal.Facts] [hPre_ranked : Cert.Pre_ranked.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_ranked m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts) (hPre_fits : Cert.Pre_fits.Facts) (hPre_ranked : Cert.Pre_ranked.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3) (hPre_fits := hPre_fits)
    ∧ quiescent_Kernel3Ideal (hKernel3Ideal := hKernel3Ideal) (hPre_fits := hPre_fits)
    ∧ quiescent_Kernel3Ideal_pre_ranked (hKernel3Ideal := hKernel3Ideal) (hPre_ranked := hPre_ranked)
    ∧ quiescent_Reference3Ideal (hReference3Ideal := hReference3Ideal)
    ∧ quiescent_Reference3Ideal_pre_ranked (hReference3Ideal := hReference3Ideal) (hPre_ranked := hPre_ranked)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_ranked (hKernel3Ideal := hKernel3Ideal) (hReference3Ideal := hReference3Ideal) (hPre_ranked := hPre_ranked)
-- ==== Pre_finite.lean ====
abbrev S8x16x8192x128 : Shape := ⟨4, ![8, 16, 8192, 128]⟩
abbrev S8x16x128x8192 : Shape := ⟨4, ![8, 16, 128, 8192]⟩
abbrev S_ : Shape := ⟨0, ![]⟩

class Facts : Prop where
  bitsLt_bf16_f32 : FTy.bits .bf16 < FTy.bits .f32
  bcast_S_S8x16x8192x128 : S_.BroadcastsInDim S8x16x8192x128 (![] : Fin 0 → Fin S8x16x8192x128.rank)
  bcast_S_S8x16x128x8192 : S_.BroadcastsInDim S8x16x128x8192 (![] : Fin 0 → Fin S8x16x128x8192.rank)

variable [Facts]

def fn {F : FTy → Type} [FloatOps F] (main_arg0 : FVec F S8x16x8192x128 .bf16) (main_arg1 : FVec F S8x16x128x8192 .bf16) (main_arg2 : FVec F S8x16x8192x128 .bf16) : IVec S8x16x8192x128 1 × IVec S8x16x128x8192 1 :=
  let main_v0 : FVec F S8x16x8192x128 .f32 := (extf .f32 · bitsLt_bf16_f32) main_arg0
  let main_v1 : FVec F S8x16x8192x128 .f32 := Host.absf main_v0
  let main_cst : FVec F S_ .f32 := constant S_ .f32 0x7F800000#32
  let main_v2 : FVec F S8x16x8192x128 .f32 := broadcastInDim S8x16x8192x128 ![] bcast_S_S8x16x8192x128 main_cst
  let main_v3 : IVec S8x16x8192x128 1 := cmpf .olt main_v1 main_v2
  let main_v4 : FVec F S8x16x128x8192 .f32 := (extf .f32 · bitsLt_bf16_f32) main_arg1
  let main_v5 : FVec F S8x16x128x8192 .f32 := Host.absf main_v4
  let main_cst_0 : FVec F S_ .f32 := constant S_ .f32 0x7F800000#32
  let main_v6 : FVec F S8x16x128x8192 .f32 := broadcastInDim S8x16x128x8192 ![] bcast_S_S8x16x128x8192 main_cst_0
  let main_v7 : IVec S8x16x128x8192 1 := cmpf .olt main_v5 main_v6
  (main_v3, main_v7)
-- ==== Pre_finite2.lean ====
abbrev S8x8x8192x128 : Shape := ⟨4, ![8, 8, 8192, 128]⟩
abbrev S8x2x128x8192 : Shape := ⟨4, ![8, 2, 128, 8192]⟩
abbrev S8x2x8192x128 : Shape := ⟨4, ![8, 2, 8192, 128]⟩
abbrev S_ : Shape := ⟨0, ![]⟩

class Facts : Prop where
  bitsLt_bf16_f32 : FTy.bits .bf16 < FTy.bits .f32
  bcast_S_S8x8x8192x128 : S_.BroadcastsInDim S8x8x8192x128 (![] : Fin 0 → Fin S8x8x8192x128.rank)
  bcast_S_S8x2x128x8192 : S_.BroadcastsInDim S8x2x128x8192 (![] : Fin 0 → Fin S8x2x128x8192.rank)

variable [Facts]

def fn {F : FTy → Type} [FloatOps F] (main_arg0 : FVec F S8x8x8192x128 .bf16) (main_arg1 : FVec F S8x2x128x8192 .bf16) (main_arg2 : FVec F S8x2x8192x128 .bf16) : IVec S8x8x8192x128 1 × IVec S8x2x128x8192 1 :=
  let main_v0 : FVec F S8x8x8192x128 .f32 := (extf .f32 · bitsLt_bf16_f32) main_arg0
  let main_v1 : FVec F S8x8x8192x128 .f32 := Host.absf main_v0
  let main_cst : FVec F S_ .f32 := constant S_ .f32 0x7F800000#32
  let main_v2 : FVec F S8x8x8192x128 .f32 := broadcastInDim S8x8x8192x128 ![] bcast_S_S8x8x8192x128 main_cst
  let main_v3 : IVec S8x8x8192x128 1 := cmpf .olt main_v1 main_v2
  let main_v4 : FVec F S8x2x128x8192 .f32 := (extf .f32 · bitsLt_bf16_f32) main_arg1
  let main_v5 : FVec F S8x2x128x8192 .f32 := Host.absf main_v4
  let main_cst_0 : FVec F S_ .f32 := constant S_ .f32 0x7F800000#32
  let main_v6 : FVec F S8x2x128x8192 .f32 := broadcastInDim S8x2x128x8192 ![] bcast_S_S8x2x128x8192 main_cst_0
  let main_v7 : IVec S8x2x128x8192 1 := cmpf .olt main_v5 main_v6
  (main_v3, main_v7)
-- ==== Pre_fits.lean ====
abbrev S8x8192x1024 : Shape := ⟨3, ![8, 8192, 1024]⟩
abbrev S8x16x1x8192 : Shape := ⟨4, ![8, 16, 1, 8192]⟩
abbrev S8x8192x16 : Shape := ⟨3, ![8, 8192, 16]⟩
abbrev S512 : Shape := ⟨1, ![512]⟩
abbrev S16x1024x1024 : Shape := ⟨3, ![16, 1024, 1024]⟩
abbrev S_ : Shape := ⟨0, ![]⟩

class Facts : Prop where
  bcast_S_S512 : S_.BroadcastsInDim S512 (![] : Fin 0 → Fin S512.rank)

variable [Facts]

def fn {F : FTy → Type} [FloatOps F] (main_arg0 : FVec F S8x8192x1024 .bf16) (main_arg1 : FVec F S8x16x1x8192 .f32) (main_arg2 : FVec F S8x8192x16 .f32) (main_arg3 : FVec F S8x8192x16 .f32) (main_arg4 : IVec S512 32) (main_arg5 : FVec F S16x1024x1024 .bf16) (main_arg6 : FVec F S16x1024x1024 .bf16) (main_arg7 : FVec F S16x1024x1024 .bf16) : IVec S512 1 :=
  let main_c : IVec S_ 32 := constantI S_ 32 0#32
  let main_v0 : IVec S512 32 := broadcastInDim S512 ![] bcast_S_S512 main_c
  let main_v1 : IVec S512 1 := cmpi .sge main_arg4 main_v0
  let main_c_0 : IVec S_ 32 := constantI S_ 32 8#32
  let main_v2 : IVec S512 32 := broadcastInDim S512 ![] bcast_S_S512 main_c_0
  let main_v3 : IVec S512 1 := cmpi .sle main_arg4 main_v2
  let main_v4 : IVec S512 1 := andi main_v1 main_v3
  main_v4
-- ==== Pre_ranked.lean ====
abbrev S8x8192x1024 : Shape := ⟨3, ![8, 8192, 1024]⟩
abbrev S8x16x1x8192 : Shape := ⟨4, ![8, 16, 1, 8192]⟩
abbrev S8x8192x16 : Shape := ⟨3, ![8, 8192, 16]⟩
abbrev S512 : Shape := ⟨1, ![512]⟩
abbrev S16x1024x1024 : Shape := ⟨3, ![16, 1024, 1024]⟩
abbrev S8x16x8192 : Shape := ⟨3, ![8, 16, 8192]⟩
abbrev S8x16x4x2048 : Shape := ⟨4, ![8, 16, 4, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x16x4x1x2048 : Shape := ⟨5, ![8, 16, 4, 1, 2048]⟩
abbrev S1x1x1x2048x2048 : Shape := ⟨5, ![1, 1, 1, 2048, 2048]⟩
abbrev S8x16x4x2048x2048 : Shape := ⟨5, ![8, 16, 4, 2048, 2048]⟩
abbrev S8x4x16 : Shape := ⟨3, ![8, 4, 16]⟩
abbrev S8x16x4 : Shape := ⟨3, ![8, 16, 4]⟩
abbrev S8x16x4x1 : Shape := ⟨4, ![8, 16, 4, 1]⟩

class Facts : Prop where
  transposes_S8x8192x16_S8x16x8192_0_2_1 : S8x8192x16.Transposes [0, 2, 1] S8x16x8192
  shapeCasts_S8x16x8192_S8x16x4x2048 : S8x16x8192.ShapeCasts S8x16x4x2048
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S8x16x4x2048 : S_.BroadcastsInDim S8x16x4x2048 (![] : Fin 0 → Fin S8x16x4x2048.rank)
  bcast_S8x16x4x2048_S8x16x4x1x2048_0_1_2_4 : S8x16x4x2048.BroadcastsInDim S8x16x4x1x2048 (![0, 1, 2, 4] : Fin 4 → Fin S8x16x4x1x2048.rank)
  bcast_S2048x2048_S1x1x1x2048x2048_3_4 : S2048x2048.BroadcastsInDim S1x1x1x2048x2048 (![3, 4] : Fin 2 → Fin S1x1x1x2048x2048.rank)
  bcast_S1x1x1x2048x2048_S8x16x4x2048x2048_0_1_2_3_4 : S1x1x1x2048x2048.BroadcastsInDim S8x16x4x2048x2048 (![0, 1, 2, 3, 4] : Fin 5 → Fin S8x16x4x2048x2048.rank)
  bcast_S8x16x4x1x2048_S8x16x4x2048x2048_0_1_2_3_4 : S8x16x4x1x2048.BroadcastsInDim S8x16x4x2048x2048 (![0, 1, 2, 3, 4] : Fin 5 → Fin S8x16x4x2048x2048.rank)
  bcast_S_S8x16x4x2048x2048 : S_.BroadcastsInDim S8x16x4x2048x2048 (![] : Fin 0 → Fin S8x16x4x2048x2048.rank)
  reducesTo_S8x16x4x2048x2048_S8x16x4x2048_d4 : S8x16x4x2048x2048.ReducesTo [4] S8x16x4x2048
  h_S_ : 0 < S_.numel
  shapeCasts_S512_S8x4x16 : S512.ShapeCasts S8x4x16
  transposes_S8x4x16_S8x16x4_0_2_1 : S8x4x16.Transposes [0, 2, 1] S8x16x4
  bcast_S8x16x4_S8x16x4x1_0_1_2 : S8x16x4.BroadcastsInDim S8x16x4x1 (![0, 1, 2] : Fin 3 → Fin S8x16x4x1.rank)
  shapeCasts_S8x16x8192_S8x16x1x8192 : S8x16x8192.ShapeCasts S8x16x1x8192
  bcast_S_S8x16x4x1 : S_.BroadcastsInDim S8x16x4x1 (![] : Fin 0 → Fin S8x16x4x1.rank)
  bcast_S8x16x4x1_S8x16x4x2048_0_1_2_3 : S8x16x4x1.BroadcastsInDim S8x16x4x2048 (![0, 1, 2, 3] : Fin 4 → Fin S8x16x4x2048.rank)

variable [Facts]

def fn_where {F : FTy → Type} [FloatOps F] (arg0 : IVec S8x16x4x2048x2048 1) (arg1 : FVec F S_ .f32) (arg2 : FVec F S_ .f32) : FVec F S8x16x4x2048x2048 .f32 :=
  let v0 : FVec F S8x16x4x2048x2048 .f32 := broadcastInDim S8x16x4x2048x2048 ![] bcast_S_S8x16x4x2048x2048 arg1
  let v1 : FVec F S8x16x4x2048x2048 .f32 := broadcastInDim S8x16x4x2048x2048 ![] bcast_S_S8x16x4x2048x2048 arg2
  let v2 : FVec F S8x16x4x2048x2048 .f32 := select arg0 v0 v1
  v2

def fn_where_0 {F : FTy → Type} [FloatOps F] (arg0 : IVec S8x16x4x2048 1) (arg1 : FVec F S8x16x4x2048 .f32) (arg2 : FVec F S_ .f32) : FVec F S8x16x4x2048 .f32 :=
  let v0 : FVec F S_ .f32 := id arg2
  let v1 : FVec F S8x16x4x2048 .f32 := broadcastInDim S8x16x4x2048 ![] bcast_S_S8x16x4x2048 v0
  let v2 : FVec F S8x16x4x2048 .f32 := select arg0 arg1 v1
  v2

def fn_part2 {F : FTy → Type} [FloatOps F] (main_v21 : IVec S8x16x4x1 32) (main_v27 : IVec S8x16x4x2048 1) (main_v30 : IVec S8x16x1x8192 1) (main_v35 : IVec S8x16x4x2048 1) (main_v37 : IVec S8x16x4x1 1) (main_c_7 : IVec S_ 32) : IVec S8x16x4x2048 1 × IVec S8x16x1x8192 1 × IVec S8x16x4x2048 1 × IVec S8x16x4x1 1 :=
  let main_v38 : IVec S8x16x4x1 32 := broadcastInDim S8x16x4x1 ![] bcast_S_S8x16x4x1 main_c_7
  let main_v39 : IVec S8x16x4x1 1 := cmpi .sle main_v21 main_v38
  let main_v40 : IVec S8x16x4x1 1 := andi main_v37 main_v39
  (main_v27, main_v30, main_v35, main_v40)

def fn_part1 {F : FTy → Type} [FloatOps F] (main_arg1 : FVec F S8x16x1x8192 .f32) (main_arg2 : FVec F S8x8192x16 .f32) (main_v1 : FVec F S8x16x4x2048 .f32) (main_v18 : FVec F S8x16x4x2048 .f32) (main_v19 : IVec S8x4x16 32) : IVec S8x16x4x2048 1 × IVec S8x16x1x8192 1 × IVec S8x16x4x2048 1 × IVec S8x16x4x1 1 :=
  let main_v20 : IVec S8x16x4 32 := (transpose S8x16x4 [0, 2, 1] · transposes_S8x4x16_S8x16x4_0_2_1) main_v19
  let main_v21 : IVec S8x16x4x1 32 := broadcastInDim S8x16x4x1 ![0, 1, 2] bcast_S8x16x4_S8x16x4x1_0_1_2 main_v20
  let main_cst_3 : FVec F S_ .f32 := constant S_ .f32 0x00000000#32
  let main_v22 : FVec F S8x16x4x2048 .f32 := broadcastInDim S8x16x4x2048 ![] bcast_S_S8x16x4x2048 main_cst_3
  let main_v23 : IVec S8x16x4x2048 1 := cmpf .oge main_v1 main_v22
  let main_cst_4 : FVec F S_ .f32 := constant S_ .f32 0x3F800000#32
  let main_v24 : FVec F S8x16x4x2048 .f32 := broadcastInDim S8x16x4x2048 ![] bcast_S_S8x16x4x2048 main_cst_4
  let main_v25 : FVec F S8x16x4x2048 .f32 := subf main_v18 main_v24
  let main_cst_5 : FVec F S_ .f32 := constant S_ .f32 0xBF800000#32
  let main_v26 : FVec F S8x16x4x2048 .f32 := fn_where_0 (F := F) main_v23 main_v25 main_cst_5
  let main_v27 : IVec S8x16x4x2048 1 := cmpf .oeq main_v1 main_v26
  let main_v28 : FVec F S8x16x8192 .f32 := (transpose S8x16x8192 [0, 2, 1] · transposes_S8x8192x16_S8x16x8192_0_2_1) main_arg2
  let main_v29 : FVec F S8x16x1x8192 .f32 := shapeCast S8x16x1x8192 main_v28 shapeCasts_S8x16x8192_S8x16x1x8192
  let main_v30 : IVec S8x16x1x8192 1 := cmpf .oeq main_arg1 main_v29
  let main_v31 : FVec F S8x16x4x1 .f32 := sitofp .f32 main_v21
  let main_cst_6 : FVec F S_ .f32 := constant S_ .f32 0x43000000#32
  let main_v32 : FVec F S8x16x4x1 .f32 := broadcastInDim S8x16x4x1 ![] bcast_S_S8x16x4x1 main_cst_6
  let main_v33 : FVec F S8x16x4x1 .f32 := mulf main_v32 main_v31
  let main_v34 : FVec F S8x16x4x2048 .f32 := broadcastInDim S8x16x4x2048 ![0, 1, 2, 3] bcast_S8x16x4x1_S8x16x4x2048_0_1_2_3 main_v33
  let main_v35 : IVec S8x16x4x2048 1 := cmpf .olt main_v1 main_v34
  let main_c : IVec S_ 32 := constantI S_ 32 0#32
  let main_v36 : IVec S8x16x4x1 32 := broadcastInDim S8x16x4x1 ![] bcast_S_S8x16x4x1 main_c
  let main_v37 : IVec S8x16x4x1 1 := cmpi .sge main_v21 main_v36
  let main_c_7 : IVec S_ 32 := constantI S_ 32 8#32
  fn_part2 (F := F) main_v21 main_v27 main_v30 main_v35 main_v37 main_c_7

def fn {F : FTy → Type} [FloatOps F] (main_arg0 : FVec F S8x8192x1024 .bf16) (main_arg1 : FVec F S8x16x1x8192 .f32) (main_arg2 : FVec F S8x8192x16 .f32) (main_arg3 : FVec F S8x8192x16 .f32) (main_arg4 : IVec S512 32) (main_arg5 : FVec F S16x1024x1024 .bf16) (main_arg6 : FVec F S16x1024x1024 .bf16) (main_arg7 : FVec F S16x1024x1024 .bf16) : IVec S8x16x4x2048 1 × IVec S8x16x1x8192 1 × IVec S8x16x4x2048 1 × IVec S8x16x4x1 1 :=
  let main_v0 : FVec F S8x16x8192 .f32 := (transpose S8x16x8192 [0, 2, 1] · transposes_S8x8192x16_S8x16x8192_0_2_1) main_arg2
  let main_v1 : FVec F S8x16x4x2048 .f32 := shapeCast S8x16x4x2048 main_v0 shapeCasts_S8x16x8192_S8x16x4x2048
  let main_v2 : IVec S2048 32 := iotaInDim S2048 32 0
  let main_v3 : IVec S2048x1 32 := broadcastInDim S2048x1 ![0] bcast_S2048_S2048x1_0 main_v2
  let main_v4 : IVec S2048 32 := iotaInDim S2048 32 0
  let main_v5 : IVec S1x2048 32 := broadcastInDim S1x2048 ![1] bcast_S2048_S1x2048_1 main_v4
  let main_v6 : IVec S2048x2048 32 := broadcastInDim S2048x2048 ![0, 1] bcast_S2048x1_S2048x2048_0_1 main_v3
  let main_v7 : IVec S2048x2048 32 := broadcastInDim S2048x2048 ![0, 1] bcast_S1x2048_S2048x2048_0_1 main_v5
  let main_v8 : IVec S2048x2048 1 := cmpi .sge main_v6 main_v7
  let main_cst : FVec F S_ .f32 := constant S_ .f32 0x00000000#32
  let main_v9 : FVec F S8x16x4x2048 .f32 := broadcastInDim S8x16x4x2048 ![] bcast_S_S8x16x4x2048 main_cst
  let main_v10 : IVec S8x16x4x2048 1 := cmpf .oge main_v1 main_v9
  let main_v11 : IVec S8x16x4x1x2048 1 := broadcastInDim S8x16x4x1x2048 ![0, 1, 2, 4] bcast_S8x16x4x2048_S8x16x4x1x2048_0_1_2_4 main_v10
  let main_v12 : IVec S1x1x1x2048x2048 1 := broadcastInDim S1x1x1x2048x2048 ![3, 4] bcast_S2048x2048_S1x1x1x2048x2048_3_4 main_v8
  let main_v13 : IVec S8x16x4x2048x2048 1 := broadcastInDim S8x16x4x2048x2048 ![0, 1, 2, 3, 4] bcast_S1x1x1x2048x2048_S8x16x4x2048x2048_0_1_2_3_4 main_v12
  let main_v14 : IVec S8x16x4x2048x2048 1 := broadcastInDim S8x16x4x2048x2048 ![0, 1, 2, 3, 4] bcast_S8x16x4x1x2048_S8x16x4x2048x2048_0_1_2_3_4 main_v11
  let main_v15 : IVec S8x16x4x2048x2048 1 := andi main_v13 main_v14
  let main_cst_0 : FVec F S_ .f32 := constant S_ .f32 0x3F800000#32
  let main_cst_1 : FVec F S_ .f32 := constant S_ .f32 0x00000000#32
  let main_v16 : FVec F S8x16x4x2048x2048 .f32 := fn_where (F := F) main_v15 main_cst_0 main_cst_1
  let main_v17 : FVec F S8x16x4x2048x2048 .f32 := id main_v16
  let main_cst_2 : FVec F S_ .f32 := constant S_ .f32 0x00000000#32
  let main_v18 : FVec F S8x16x4x2048 .f32 := (fun x v => Host.reduceAdd x v reducesTo_S8x16x4x2048x2048_S8x16x4x2048_d4 h_S_) main_v17 main_cst_2
  let main_v19 : IVec S8x4x16 32 := shapeCast S8x4x16 main_arg4 shapeCasts_S512_S8x4x16
  fn_part1 (F := F) main_arg1 main_arg2 main_v1 main_v18 main_v19
-- ==== Kernel.lean ====
abbrev S8x16x8192x128 : Shape := ⟨4, ![8, 16, 8192, 128]⟩
abbrev S8x16x128x8192 : Shape := ⟨4, ![8, 16, 128, 8192]⟩
abbrev S8x8192x2048 : Shape := ⟨3, ![8, 8192, 2048]⟩
abbrev S1x1x1024x128 : Shape := ⟨4, ![1, 1, 1024, 128]⟩
abbrev S1x1x128x8192 : Shape := ⟨4, ![1, 1, 128, 8192]⟩
abbrev S1x1x8192x128 : Shape := ⟨4, ![1, 1, 8192, 128]⟩
abbrev S1x1024x128 : Shape := ⟨3, ![1, 1024, 128]⟩
abbrev S1024x1 : Shape := ⟨2, ![1024, 1]⟩
abbrev S1024x128 : Shape := ⟨2, ![1024, 128]⟩
abbrev S1x1x128x512 : Shape := ⟨4, ![1, 1, 128, 512]⟩
abbrev S128x512 : Shape := ⟨2, ![128, 512]⟩
abbrev S1024x512 : Shape := ⟨2, ![1024, 512]⟩
abbrev S1024 : Shape := ⟨1, ![1024]⟩
abbrev S1x1x512x128 : Shape := ⟨4, ![1, 1, 512, 128]⟩
abbrev S512x128 : Shape := ⟨2, ![512, 128]⟩

abbrev nBuf : Space → Nat
  | .hbm => 4
  | .vmem => 11
  | .smem => 0
  | _ => 0

abbrev bufTy : (tb : Table) → Fin (tcTables nBuf tb) → BufTy
  | .hbm, ⟨0, _⟩ => ⟨S8x16x8192x128, .bf16⟩
  | .hbm, ⟨1, _⟩ => ⟨S8x16x128x8192, .bf16⟩
  | .hbm, ⟨2, _⟩ => ⟨S8x16x8192x128, .bf16⟩
  | .hbm, ⟨3, _⟩ => ⟨S8x8192x2048, .bf16⟩
  | .local _ .vmem, ⟨0, _⟩ => ⟨S1x1x1024x128, .bf16⟩
  | .local _ .vmem, ⟨1, _⟩ => ⟨S1x1x1024x128, .bf16⟩
  | .local _ .vmem, ⟨2, _⟩ => ⟨S1x1x128x8192, .bf16⟩
  | .local _ .vmem, ⟨3, _⟩ => ⟨S1x1x128x8192, .bf16⟩
  | .local _ .vmem, ⟨4, _⟩ => ⟨S1x1x8192x128, .bf16⟩
  | .local _ .vmem, ⟨5, _⟩ => ⟨S1x1x8192x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | _, _ => ⟨S8x16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 8], ![false, false, false]⟩

@[reducible] def k0_t1_loop : Scf.Loop 32 :=
  let c0_i32 : BitVec 32 := 0#32
  let c16_i32 : BitVec 32 := 16#32
  let v15 : BitVec 32 := Scalar.addi c0_i32 c16_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v24 : BitVec 32 := Scalar.muli arg10 c512_i32
  v24
def k0_off1 (k0_t1 : Fin k0_t1_loop.trips) : Fin 4 → Nat :=
  let c0_19 : Index := 0#32
  let c0_20 : Index := 0#32
  let c0_21 : Index := 0#32
  let c0_i32 : BitVec 32 := 0#32
  let c1_i32 : BitVec 32 := 1#32
  let arg10 : BitVec 32 := Scf.iv c0_i32 c1_i32 k0_t1
  let c512_i32 : BitVec 32 := 512#32
  let v24 : BitVec 32 := Scalar.muli arg10 c512_i32
  let v25 : BitVec 32 := v24
  let v26 : Index := Scalar.indexCast v25
  ![0, 0, 0, v26.toNat]
def k0_off2 (k0_t1 : Fin k0_t1_loop.trips) : Fin 4 → Nat :=
  let c0_31 : Index := 0#32
  let c0_32 : Index := 0#32
  let c0_i32 : BitVec 32 := 0#32
  let c1_i32 : BitVec 32 := 1#32
  let arg10 : BitVec 32 := Scf.iv c0_i32 c1_i32 k0_t1
  let c512_i32 : BitVec 32 := 512#32
  let v24 : BitVec 32 := Scalar.muli arg10 c512_i32
  let v25 : BitVec 32 := v24
  let v48 : Index := Scalar.indexCast v25
  let c0_33 : Index := 0#32
  ![0, 0, v48.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x16x8192x128 : Shape := ⟨4, ![8, 16, 8192, 128]⟩
abbrev S8x16x128x8192 : Shape := ⟨4, ![8, 16, 128, 8192]⟩
abbrev S8x8192x16x128 : Shape := ⟨4, ![8, 8192, 16, 128]⟩
abbrev S8x8192x16x1x128 : Shape := ⟨5, ![8, 8192, 16, 1, 128]⟩
abbrev S8x16x8192x8192x1 : Shape := ⟨5, ![8, 16, 8192, 8192, 1]⟩
abbrev S8x16x1x8192x8192 : Shape := ⟨5, ![8, 16, 1, 8192, 8192]⟩
abbrev S_ : Shape := ⟨0, ![]⟩
abbrev S8x16x1x8192 : Shape := ⟨4, ![8, 16, 1, 8192]⟩
abbrev S8x16x1x8192x1 : Shape := ⟨5, ![8, 16, 1, 8192, 1]⟩
abbrev S8x16x128x1x8192 : Shape := ⟨5, ![8, 16, 128, 1, 8192]⟩
abbrev S8x8192x2048 : Shape := ⟨3, ![8, 8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8x16x8192x128, .bf16⟩
  | .hbm, ⟨1, _⟩ => ⟨S8x16x128x8192, .bf16⟩
  | .hbm, ⟨2, _⟩ => ⟨S8x16x8192x128, .bf16⟩
  | .hbm, ⟨3, _⟩ => ⟨S8x16x8192x128, .f32⟩
  | .hbm, ⟨4, _⟩ => ⟨S8x8192x16x128, .f32⟩
  | .hbm, ⟨5, _⟩ => ⟨S8x16x128x8192, .f32⟩
  | .hbm, ⟨6, _⟩ => ⟨S8x8192x16x128, .f32⟩
  | .hbm, ⟨7, _⟩ => ⟨S8x16x8192x128, .f32⟩
  | .hbm, ⟨8, _⟩ => ⟨S8x8192x16x128, .f32⟩
  | .hbm, ⟨9, _⟩ => ⟨S8x8192x16x1x128, .f32⟩
  | .hbm, ⟨10, _⟩ => ⟨S8x16x8192x8192x1, .f32⟩
  | .hbm, ⟨11, _⟩ => ⟨S8x16x1x8192x8192, .f32⟩
  | .hbm, ⟨12, _⟩ => ⟨S_, .f32⟩
  | .hbm, ⟨13, _⟩ => ⟨S8x16x1x8192, .f32⟩
  | .hbm, ⟨14, _⟩ => ⟨S_, .f32⟩
  | .hbm, ⟨15, _⟩ => ⟨S8x16x1x8192, .f32⟩
  | .hbm, ⟨16, _⟩ => ⟨S8x16x1x8192, .f32⟩
  | .hbm, ⟨17, _⟩ => ⟨S8x16x1x8192x1, .f32⟩
  | .hbm, ⟨18, _⟩ => ⟨S8x16x1x8192x8192, .f32⟩
  | .hbm, ⟨19, _⟩ => ⟨S8x16x1x8192x8192, .f32⟩
  | .hbm, ⟨20, _⟩ => ⟨S8x16x1x8192x8192, .f32⟩
  | .hbm, ⟨21, _⟩ => ⟨S_, .f32⟩
  | .hbm, ⟨22, _⟩ => ⟨S8x16x1x8192, .f32⟩
  | .hbm, ⟨23, _⟩ => ⟨S8x16x1x8192x1, .f32⟩
  | .hbm, ⟨24, _⟩ => ⟨S8x16x1x8192x8192, .f32⟩
  | .hbm, ⟨25, _⟩ => ⟨S8x16x1x8192x8192, .f32⟩
  | .hbm, ⟨26, _⟩ => ⟨S8x16x128x1x8192, .f32⟩
  | .hbm, ⟨27, _⟩ => ⟨S8x8192x16x1x128, .f32⟩
  | .hbm, ⟨28, _⟩ => ⟨S8x8192x2048, .f32⟩
  | .hbm, ⟨29, _⟩ => ⟨S8x8192x2048, .bf16⟩
  | _, _ => ⟨S8x16x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel2.lean ====
abbrev S8x8x8192x128 : Shape := ⟨4, ![8, 8, 8192, 128]⟩
abbrev S8x2x128x8192 : Shape := ⟨4, ![8, 2, 128, 8192]⟩
abbrev S8x2x8192x128 : Shape := ⟨4, ![8, 2, 8192, 128]⟩
abbrev S8x8192x1024 : Shape := ⟨3, ![8, 8192, 1024]⟩
abbrev S1x4x256x128 : Shape := ⟨4, ![1, 4, 256, 128]⟩
abbrev S1x1x128x8192 : Shape := ⟨4, ![1, 1, 128, 8192]⟩
abbrev S1x1x8192x128 : Shape := ⟨4, ![1, 1, 8192, 128]⟩
abbrev S1x256x512 : Shape := ⟨3, ![1, 256, 512]⟩
abbrev S1024x1 : Shape := ⟨2, ![1024, 1]⟩
abbrev S1024x128 : Shape := ⟨2, ![1024, 128]⟩
abbrev S4x256x128 : Shape := ⟨3, ![4, 256, 128]⟩
abbrev S1x1x128x512 : Shape := ⟨4, ![1, 1, 128, 512]⟩
abbrev S128x512 : Shape := ⟨2, ![128, 512]⟩
abbrev S1024x512 : Shape := ⟨2, ![1024, 512]⟩
abbrev S1024 : Shape := ⟨1, ![1024]⟩
abbrev S1x1x512x128 : Shape := ⟨4, ![1, 1, 512, 128]⟩
abbrev S512x128 : Shape := ⟨2, ![512, 128]⟩
abbrev S256x128 : Shape := ⟨2, ![256, 128]⟩
abbrev S1x256x128 : Shape := ⟨3, ![1, 256, 128]⟩

abbrev nBuf : Space → Nat
  | .hbm => 4
  | .vmem => 11
  | .smem => 0
  | _ => 0

abbrev bufTy : (tb : Table) → Fin (tcTables nBuf tb) → BufTy
  | .hbm, ⟨0, _⟩ => ⟨S8x8x8192x128, .bf16⟩
  | .hbm, ⟨1, _⟩ => ⟨S8x2x128x8192, .bf16⟩
  | .hbm, ⟨2, _⟩ => ⟨S8x2x8192x128, .bf16⟩
  | .hbm, ⟨3, _⟩ => ⟨S8x8192x1024, .bf16⟩
  | .local _ .vmem, ⟨0, _⟩ => ⟨S1x4x256x128, .bf16⟩
  | .local _ .vmem, ⟨1, _⟩ => ⟨S1x4x256x128, .bf16⟩
  | .local _ .vmem, ⟨2, _⟩ => ⟨S1x1x128x8192, .bf16⟩
  | .local _ .vmem, ⟨3, _⟩ => ⟨S1x1x128x8192, .bf16⟩
  | .local _ .vmem, ⟨4, _⟩ => ⟨S1x1x8192x128, .bf16⟩
  | .local _ .vmem, ⟨5, _⟩ => ⟨S1x1x8192x128, .bf16⟩
  | .local _ .vmem, ⟨6, _⟩ => ⟨S1x256x512, .bf16⟩
  | .local _ .vmem, ⟨7, _⟩ => ⟨S1x256x512, .bf16⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | _, _ => ⟨S8x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 32], ![false, false, false]⟩

@[reducible] def k0_t1_loop : Scf.Loop 32 :=
  let c0_i32 : BitVec 32 := 0#32
  let c16_i32 : BitVec 32 := 16#32
  let v15 : BitVec 32 := Scalar.addi c0_i32 c16_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v40 : BitVec 32 := Scalar.muli arg10 c512_i32
  v40
def k0_off1 (k0_t1 : Fin k0_t1_loop.trips) : Fin 4 → Nat :=
  let c0_25 : Index := 0#32
  let c0_26 : Index := 0#32
  let c0_27 : Index := 0#32
  let c0_i32 : BitVec 32 := 0#32
  let c1_i32 : BitVec 32 := 1#32
  let arg10 : BitVec 32 := Scf.iv c0_i32 c1_i32 k0_t1
  let c512_i32 : BitVec 32 := 512#32
  let v40 : BitVec 32 := Scalar.muli arg10 c512_i32
  let v41 : BitVec 32 := v40
  let v42 : Index := Scalar.indexCast v41
  ![0, 0, 0, v42.toNat]
def k0_off2 (k0_t1 : Fin k0_t1_loop.trips) : Fin 4 → Nat :=
  let c0_37 : Index := 0#32
  let c0_38 : Index := 0#32
  let c0_i32 : BitVec 32 := 0#32
  let c1_i32 : BitVec 32 := 1#32
  let arg10 : BitVec 32 := Scf.iv c0_i32 c1_i32 k0_t1
  let c512_i32 : BitVec 32 := 512#32
  let v40 : BitVec 32 := Scalar.muli arg10 c512_i32
  let v41 : BitVec 32 := v40
  let v64 : Index := Scalar.indexCast v41
  let c0_39 : Index := 0#32
  ![0, 0, v64.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S8x8x8192x128 : Shape := ⟨4, ![8, 8, 8192, 128]⟩
abbrev S8x2x128x8192 : Shape := ⟨4, ![8, 2, 128, 8192]⟩
abbrev S8x2x8192x128 : Shape := ⟨4, ![8, 2, 8192, 128]⟩
abbrev S8x8192x8x128 : Shape := ⟨4, ![8, 8192, 8, 128]⟩
abbrev S8x8192x2x128 : Shape := ⟨4, ![8, 8192, 2, 128]⟩
abbrev S8x8192x2x4x128 : Shape := ⟨5, ![8, 8192, 2, 4, 128]⟩
abbrev S8x2x8192x8192x4 : Shape := ⟨5, ![8, 2, 8192, 8192, 4]⟩
abbrev S8x2x4x8192x8192 : Shape := ⟨5, ![8, 2, 4, 8192, 8192]⟩
abbrev S_ : Shape := ⟨0, ![]⟩
abbrev S8x2x4x8192 : Shape := ⟨4, ![8, 2, 4, 8192]⟩
abbrev S8x2x4x8192x1 : Shape := ⟨5, ![8, 2, 4, 8192, 1]⟩
abbrev S8x2x128x4x8192 : Shape := ⟨5, ![8, 2, 128, 4, 8192]⟩
abbrev S8x8192x1024 : Shape := ⟨3, ![8, 8192, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x8x8192x128, .bf16⟩
  | .hbm, ⟨1, _⟩ => ⟨S8x2x128x8192, .bf16⟩
  | .hbm, ⟨2, _⟩ => ⟨S8x2x8192x128, .bf16⟩
  | .hbm, ⟨3, _⟩ => ⟨S8x8x8192x128, .f32⟩
  | .hbm, ⟨4, _⟩ => ⟨S8x8192x8x128, .f32⟩
  | .hbm, ⟨5, _⟩ => ⟨S8x2x128x8192, .f32⟩
  | .hbm, ⟨6, _⟩ => ⟨S8x8192x2x128, .f32⟩
  | .hbm, ⟨7, _⟩ => ⟨S8x2x8192x128, .f32⟩
  | .hbm, ⟨8, _⟩ => ⟨S8x8192x2x128, .f32⟩
  | .hbm, ⟨9, _⟩ => ⟨S8x8192x2x4x128, .f32⟩
  | .hbm, ⟨10, _⟩ => ⟨S8x2x8192x8192x4, .f32⟩
  | .hbm, ⟨11, _⟩ => ⟨S8x2x4x8192x8192, .f32⟩
  | .hbm, ⟨12, _⟩ => ⟨S_, .f32⟩
  | .hbm, ⟨13, _⟩ => ⟨S8x2x4x8192, .f32⟩
  | .hbm, ⟨14, _⟩ => ⟨S_, .f32⟩
  | .hbm, ⟨15, _⟩ => ⟨S8x2x4x8192, .f32⟩
  | .hbm, ⟨16, _⟩ => ⟨S8x2x4x8192, .f32⟩
  | .hbm, ⟨17, _⟩ => ⟨S8x2x4x8192x1, .f32⟩
  | .hbm, ⟨18, _⟩ => ⟨S8x2x4x8192x8192, .f32⟩
  | .hbm, ⟨19, _⟩ => ⟨S8x2x4x8192x8192, .f32⟩
  | .hbm, ⟨20, _⟩ => ⟨S8x2x4x8192x8192, .f32⟩
  | .hbm, ⟨21, _⟩ => ⟨S_, .f32⟩
  | .hbm, ⟨22, _⟩ => ⟨S8x2x4x8192, .f32⟩
  | .hbm, ⟨23, _⟩ => ⟨S8x2x4x8192x1, .f32⟩
  | .hbm, ⟨24, _⟩ => ⟨S8x2x4x8192x8192, .f32⟩
  | .hbm, ⟨25, _⟩ => ⟨S8x2x4x8192x8192, .f32⟩
  | .hbm, ⟨26, _⟩ => ⟨S8x2x128x4x8192, .f32⟩
  | .hbm, ⟨27, _⟩ => ⟨S8x8192x2x4x128, .f32⟩
  | .hbm, ⟨28, _⟩ => ⟨S8x8192x1024, .f32⟩
  | .hbm, ⟨29, _⟩ => ⟨S8x8192x1024, .bf16⟩
  | _, _ => ⟨S8x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x16x1x8192 : Shape := ⟨4, ![8, 16, 1, 8192]⟩
abbrev S8x8192x16 : Shape := ⟨3, ![8, 8192, 16]⟩
abbrev S512 : Shape := ⟨1, ![512]⟩
abbrev S16x1024x1024 : Shape := ⟨3, ![16, 1024, 1024]⟩
abbrev S1x2048x1024 : Shape := ⟨3, ![1, 2048, 1024]⟩
abbrev S1x1x1x2048 : Shape := ⟨4, ![1, 1, 1, 2048]⟩
abbrev S1x2048x16 : Shape := ⟨3, ![1, 2048, 16]⟩
abbrev S1x1024x1024 : Shape := ⟨3, ![1, 1024, 1024]⟩
abbrev S1152x1024 : Shape := ⟨2, ![1152, 1024]⟩
abbrev S1 : Shape := ⟨1, ![1]⟩
abbrev S1x2048 : Shape := ⟨2, ![1, 2048]⟩
abbrev S128x1 : Shape := ⟨2, ![128, 1]⟩
abbrev S128x2048 : Shape := ⟨2, ![128, 2048]⟩
abbrev S2048x1024 : Shape := ⟨2, ![2048, 1024]⟩
abbrev S128x1024 : Shape := ⟨2, ![128, 1024]⟩
abbrev S1024x1024 : Shape := ⟨2, ![1024, 1024]⟩
abbrev S1x16 : Shape := ⟨2, ![1, 16]⟩
abbrev S1x256 : Shape := ⟨2, ![1, 256]⟩
abbrev S256x1024 : Shape := ⟨2, ![256, 1024]⟩
abbrev S1x512x16 : Shape := ⟨3, ![1, 512, 16]⟩
abbrev S512x16 : Shape := ⟨2, ![512, 16]⟩
abbrev S512x1 : Shape := ⟨2, ![512, 1]⟩
abbrev S512x256 : Shape := ⟨2, ![512, 256]⟩
abbrev S1x512x1024 : Shape := ⟨3, ![1, 512, 1024]⟩
abbrev S512x1024 : Shape := ⟨2, ![512, 1024]⟩

abbrev nBuf : Space → Nat
  | .hbm => 8
  | .vmem => 17
  | .smem => 1
  | _ => 0

abbrev bufTy : (tb : Table) → Fin (tcTables nBuf tb) → BufTy
  | .hbm, ⟨0, _⟩ => ⟨S8x8192x1024, .bf16⟩
  | .hbm, ⟨1, _⟩ => ⟨S8x16x1x8192, .f32⟩
  | .hbm, ⟨2, _⟩ => ⟨S8x8192x16, .f32⟩
  | .hbm, ⟨3, _⟩ => ⟨S8x8192x16, .f32⟩
  | .hbm, ⟨4, _⟩ => ⟨S16x1024x1024, .bf16⟩
  | .hbm, ⟨5, _⟩ => ⟨S16x1024x1024, .bf16⟩
  | .hbm, ⟨6, _⟩ => ⟨S16x1024x1024, .bf16⟩
  | .hbm, ⟨7, _⟩ => ⟨S8x8192x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1x1x2048, .f32⟩
  | .local _ .vmem, ⟨3, _⟩ => ⟨S1x1x1x2048, .f32⟩
  | .local _ .vmem, ⟨4, _⟩ => ⟨S1x2048x16, .f32⟩
  | .local _ .vmem, ⟨5, _⟩ => ⟨S1x2048x16, .f32⟩
  | .local _ .vmem, ⟨6, _⟩ => ⟨S1x2048x16, .f32⟩
  | .local _ .vmem, ⟨7, _⟩ => ⟨S1x2048x16, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x2048x1024, .f32⟩
  | .local _ .vmem, ⟨15, _⟩ => ⟨S1x2048x1024, .f32⟩
  | .local _ .vmem, ⟨16, _⟩ => ⟨S1152x1024, .bf16⟩
  | .local _ .smem, ⟨0, _⟩ => ⟨S512, .i32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 16], ![false, false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v3 : BitVec 32 := Scalar.muli arg0 c4_i32
  let arg1 : BitVec 32 := BitVec.ofNat 32 (i 1).val
  let v4 : BitVec 32 := Scalar.addi v3 arg1
  let c16_i32 : BitVec 32 := 16#32
  let v5 : BitVec 32 := Scalar.muli v4 c16_i32
  let arg2 : BitVec 32 := BitVec.ofNat 32 (i 2).val
  let v6 : BitVec 32 := Scalar.addi v5 arg2
  let v7 : Index := Scalar.indexCast v6
  ![v7.toNat]
@[reducible] def k0_t1_loop (v8 : BitVec 32) : Scf.Loop 32 :=
  let c0_i32_5 : BitVec 32 := 0#32
  let v11 : BitVec 32 := Scalar.subi v8 c0_i32_5
  let c1_i32 : BitVec 32 := 1#32
  let v13 : BitVec 32 := Scalar.divsi v11 c1_i32
  let v14 : BitVec 32 := Scalar.muli v13 c1_i32
  let v15 : BitVec 32 := Scalar.addi c0_i32_5 v14
  let c1_i32_6 : BitVec 32 := 1#32
  ⟨c0_i32_5, v15, c1_i32_6⟩

def k0_mult1 (v8 : BitVec 32) (k0_t1 : Fin (k0_t1_loop v8).trips) : BitVec 32 :=
  let c0_i32_5 : BitVec 32 := 0#32
  let c1_i32_6 : BitVec 32 := 1#32
  let arg13 : BitVec 32 := Scf.iv c0_i32_5 c1_i32_6 k0_t1
  let c128_i32_47 : BitVec 32 := 128#32
  let v89 : BitVec 32 := Scalar.muli arg13 c128_i32_47
  v89
def k0_off2 (v8 : BitVec 32) (k0_t1 : Fin (k0_t1_loop v8).trips) : Fin 2 → Nat :=
  let c0_i32_5 : BitVec 32 := 0#32
  let c1_i32_6 : BitVec 32 := 1#32
  let arg13 : BitVec 32 := Scf.iv c0_i32_5 c1_i32_6 k0_t1
  let c128_i32_47 : BitVec 32 := 128#32
  let v89 : BitVec 32 := Scalar.muli arg13 c128_i32_47
  let v90 : BitVec 32 := v89
  let v91 : Index := Scalar.indexCast v90
  let c0_48 : Index := 0#32
  ![v91.toNat, 0]
@[reducible] def k0_t2_loop (v8 : BitVec 32) : Scf.Loop 32 :=
  let c0_i32_5 : BitVec 32 := 0#32
  let v11 : BitVec 32 := Scalar.subi v8 c0_i32_5
  let c1_i32 : BitVec 32 := 1#32
  let v13 : BitVec 32 := Scalar.divsi v11 c1_i32
  let v14 : BitVec 32 := Scalar.muli v13 c1_i32
  let v15 : BitVec 32 := Scalar.addi c0_i32_5 v14
  let v12 : BitVec 32 := Scalar.addi c0_i32_5 v11
  let c1_i32_7 : BitVec 32 := 1#32
  ⟨v15, v12, c1_i32_7⟩
def k0_mult2 (v8 : BitVec 32) (k0_t2 : Fin (k0_t2_loop v8).trips) : BitVec 32 :=
  let c0_i32_5 : BitVec 32 := 0#32
  let v11 : BitVec 32 := Scalar.subi v8 c0_i32_5
  let c1_i32 : BitVec 32 := 1#32
  let v13 : BitVec 32 := Scalar.divsi v11 c1_i32
  let v14 : BitVec 32 := Scalar.muli v13 c1_i32
  let v15 : BitVec 32 := Scalar.addi c0_i32_5 v14
  let c1_i32_7 : BitVec 32 := 1#32
  let arg13 : BitVec 32 := Scf.iv v15 c1_i32_7 k0_t2
  let c128_i32_47 : BitVec 32 := 128#32
  let v89 : BitVec 32 := Scalar.muli arg13 c128_i32_47
  v89
def k0_off3 (v8 : BitVec 32) (k0_t2 : Fin (k0_t2_loop v8).trips) : Fin 2 → Nat :=
  let c0_i32_5 : BitVec 32 := 0#32
  let v11 : BitVec 32 := Scalar.subi v8 c0_i32_5
  let c1_i32 : BitVec 32 := 1#32
  let v13 : BitVec 32 := Scalar.divsi v11 c1_i32
  let v14 : BitVec 32 := Scalar.muli v13 c1_i32
  let v15 : BitVec 32 := Scalar.addi c0_i32_5 v14
  let c1_i32_7 : BitVec 32 := 1#32
  let arg13 : BitVec 32 := Scf.iv v15 c1_i32_7 k0_t2
  let c128_i32_47 : BitVec 32 := 128#32
  let v89 : BitVec 32 := Scalar.muli arg13 c128_i32_47
  let v90 : BitVec 32 := v89
  let v91 : Index := Scalar.indexCast v90
  let c0_48 : Index := 0#32
  ![v91.toNat, 0]
def k0_mult3 (v8 : BitVec 32) : BitVec 32 :=
  let c128_i32 : BitVec 32 := 128#32
  let v56 : BitVec 32 := Scalar.muli v8 c128_i32
  v56
def k0_cond2 (v8 : BitVec 32) : BitVec 1 :=
  let c2_i32 : BitVec 32 := 2#32
  let c0_i32_8 : BitVec 32 := 0#32
  let v16 : BitVec 1 := Scalar.cmpi .eq c2_i32 c0_i32_8
  let c1_i32_9 : BitVec 32 := 1#32
  let v17 : BitVec 32 := Scalar.select v16 c1_i32_9 c2_i32
  let v18 : BitVec 32 := Scalar.remsi v8 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def k0_off4 (v8 : BitVec 32) : Fin 2 → Nat :=
  let c128_i32 : BitVec 32 := 128#32
  let v56 : BitVec 32 := Scalar.muli v8 c128_i32
  let v57 : BitVec 32 := v56
  let v58 : Index := Scalar.indexCast v57
  let c0_28 : Index := 0#32
  ![v58.toNat, 0]
@[reducible] def k0_t3_loop (v8 : BitVec 32) : Scf.Loop 32 :=
  let c0_i32_24 : BitVec 32 := 0#32
  let c1_i32_15 : BitVec 32 := 1#32
  let v32 : BitVec 32 := Scalar.addi v8 c1_i32_15
  let c0_i32_17 : BitVec 32 := 0#32
  let v34 : BitVec 1 := Scalar.cmpi .sgt v32 c0_i32_17
  let v35 : BitVec 32 := Scalar.extui v34
  let c0_i32_18 : BitVec 32 := 0#32
  let v36 : BitVec 1 := Scalar.cmpi .slt v32 c0_i32_18
  let v37 : BitVec 32 := Scalar.extui v36
  let v38 : BitVec 32 := Scalar.subi v35 v37
  let c2_i32_16 : BitVec 32 := 2#32
  let c0_i32_19 : BitVec 32 := 0#32
  let v39 : BitVec 1 := Scalar.cmpi .sgt c2_i32_16 c0_i32_19
  let v40 : BitVec 32 := Scalar.extui v39
  let c0_i32_20 : BitVec 32 := 0#32
  let v41 : BitVec 1 := Scalar.cmpi .slt c2_i32_16 c0_i32_20
  let v42 : BitVec 32 := Scalar.extui v41
  let v43 : BitVec 32 := Scalar.subi v40 v42
  let v44 : BitVec 1 := Scalar.cmpi .ne v38 v43
  let v45 : BitVec 32 := Scalar.remsi v32 c2_i32_16
  let c0_i32_21 : BitVec 32 := 0#32
  let v46 : BitVec 1 := Scalar.cmpi .ne v45 c0_i32_21
  let v47 : BitVec 1 := Scalar.andi v44 v46
  let v33 : BitVec 32 := Scalar.divsi v32 c2_i32_16
  let c1_i32_22 : BitVec 32 := 1#32
  let v48 : BitVec 32 := Scalar.subi v33 c1_i32_22
  let v49 : BitVec 32 := Scalar.select v47 v48 v33
  let v50 : BitVec 32 := Scalar.subi v49 c0_i32_24
  let c1_i32_25 : BitVec 32 := 1#32
  let v52 : BitVec 32 := Scalar.divsi v50 c1_i32_25
  let v53 : BitVec 32 := Scalar.muli v52 c1_i32_25
  let v54 : BitVec 32 := Scalar.addi c0_i32_24 v53
  let c1_i32_26 : BitVec 32 := 1#32
  ⟨c0_i32_24, v54, c1_i32_26⟩
def k0_mult4 (v8 : BitVec 32) (k0_t3 : Fin (k0_t3_loop v8).trips) : BitVec 32 :=
  let c0_i32_24 : BitVec 32 := 0#32
  let c1_i32_26 : BitVec 32 := 1#32
  let arg13 : BitVec 32 := Scf.iv c0_i32_24 c1_i32_26 k0_t3
  let c2_i32_28 : BitVec 32 := 2#32
  let v55 : BitVec 32 := Scalar.muli arg13 c2_i32_28
  let c128_i32 : BitVec 32 := 128#32
  let v56 : BitVec 32 := Scalar.muli v55 c128_i32
  v56
def k0_off5 (v8 : BitVec 32) (k0_t3 : Fin (k0_t3_loop v8).trips) : Fin 2 → Nat :=
  let c0_i32_24 : BitVec 32 := 0#32
  let c1_i32_26 : BitVec 32 := 1#32
  let arg13 : BitVec 32 := Scf.iv c0_i32_24 c1_i32_26 k0_t3
  let c2_i32_28 : BitVec 32 := 2#32
  let v55 : BitVec 32 := Scalar.muli arg13 c2_i32_28
  let c128_i32 : BitVec 32 := 128#32
  let v56 : BitVec 32 := Scalar.muli v55 c128_i32
  let v57 : BitVec 32 := v56
  let v62 : Index := Scalar.indexCast v57
  let c0_29 : Index := 0#32
  ![v62.toNat, 0]
@[reducible] def k0_t4_loop (v8 : BitVec 32) : Scf.Loop 32 :=
  let c0_i32_24 : BitVec 32 := 0#32
  let c1_i32_15 : BitVec 32 := 1#32
  let v32 : BitVec 32 := Scalar.addi v8 c1_i32_15
  let c0_i32_17 : BitVec 32 := 0#32
  let v34 : BitVec 1 := Scalar.cmpi .sgt v32 c0_i32_17
  let v35 : BitVec 32 := Scalar.extui v34
  let c0_i32_18 : BitVec 32 := 0#32
  let v36 : BitVec 1 := Scalar.cmpi .slt v32 c0_i32_18
  let v37 : BitVec 32 := Scalar.extui v36
  let v38 : BitVec 32 := Scalar.subi v35 v37
  let c2_i32_16 : BitVec 32 := 2#32
  let c0_i32_19 : BitVec 32 := 0#32
  let v39 : BitVec 1 := Scalar.cmpi .sgt c2_i32_16 c0_i32_19
  let v40 : BitVec 32 := Scalar.extui v39
  let c0_i32_20 : BitVec 32 := 0#32
  let v41 : BitVec 1 := Scalar.cmpi .slt c2_i32_16 c0_i32_20
  let v42 : BitVec 32 := Scalar.extui v41
  let v43 : BitVec 32 := Scalar.subi v40 v42
  let v44 : BitVec 1 := Scalar.cmpi .ne v38 v43
  let v45 : BitVec 32 := Scalar.remsi v32 c2_i32_16
  let c0_i32_21 : BitVec 32 := 0#32
  let v46 : BitVec 1 := Scalar.cmpi .ne v45 c0_i32_21
  let v47 : BitVec 1 := Scalar.andi v44 v46
  let v33 : BitVec 32 := Scalar.divsi v32 c2_i32_16
  let c1_i32_22 : BitVec 32 := 1#32
  let v48 : BitVec 32 := Scalar.subi v33 c1_i32_22
  let v49 : BitVec 32 := Scalar.select v47 v48 v33
  let v50 : BitVec 32 := Scalar.subi v49 c0_i32_24
  let c1_i32_25 : BitVec 32 := 1#32
  let v52 : BitVec 32 := Scalar.divsi v50 c1_i32_25
  let v53 : BitVec 32 := Scalar.muli v52 c1_i32_25
  let v54 : BitVec 32 := Scalar.addi c0_i32_24 v53
  let v51 : BitVec 32 := Scalar.addi c0_i32_24 v50
  let c1_i32_27 : BitVec 32 := 1#32
  ⟨v54, v51, c1_i32_27⟩
def k0_mult5 (v8 : BitVec 32) (k0_t4 : Fin (k0_t4_loop v8).trips) : BitVec 32 :=
  let c0_i32_24 : BitVec 32 := 0#32
  let c1_i32_15 : BitVec 32 := 1#32
  let v32 : BitVec 32 := Scalar.addi v8 c1_i32_15
  let c0_i32_17 : BitVec 32 := 0#32
  let v34 : BitVec 1 := Scalar.cmpi .sgt v32 c0_i32_17
  let v35 : BitVec 32 := Scalar.extui v34
  let c0_i32_18 : BitVec 32 := 0#32
  let v36 : BitVec 1 := Scalar.cmpi .slt v32 c0_i32_18
  let v37 : BitVec 32 := Scalar.extui v36
  let v38 : BitVec 32 := Scalar.subi v35 v37
  let c2_i32_16 : BitVec 32 := 2#32
  let c0_i32_19 : BitVec 32 := 0#32
  let v39 : BitVec 1 := Scalar.cmpi .sgt c2_i32_16 c0_i32_19
  let v40 : BitVec 32 := Scalar.extui v39
  let c0_i32_20 : BitVec 32 := 0#32
  let v41 : BitVec 1 := Scalar.cmpi .slt c2_i32_16 c0_i32_20
  let v42 : BitVec 32 := Scalar.extui v41
  let v43 : BitVec 32 := Scalar.subi v40 v42
  let v44 : BitVec 1 := Scalar.cmpi .ne v38 v43
  let v45 : BitVec 32 := Scalar.remsi v32 c2_i32_16
  let c0_i32_21 : BitVec 32 := 0#32
  let v46 : BitVec 1 := Scalar.cmpi .ne v45 c0_i32_21
  let v47 : BitVec 1 := Scalar.andi v44 v46
  let v33 : BitVec 32 := Scalar.divsi v32 c2_i32_16
  let c1_i32_22 : BitVec 32 := 1#32
  let v48 : BitVec 32 := Scalar.subi v33 c1_i32_22
  let v49 : BitVec 32 := Scalar.select v47 v48 v33
  let v50 : BitVec 32 := Scalar.subi v49 c0_i32_24
  let c1_i32_25 : BitVec 32 := 1#32
  let v52 : BitVec 32 := Scalar.divsi v50 c1_i32_25
  let v53 : BitVec 32 := Scalar.muli v52 c1_i32_25
  let v54 : BitVec 32 := Scalar.addi c0_i32_24 v53
  let c1_i32_27 : BitVec 32 := 1#32
  let arg13 : BitVec 32 := Scf.iv v54 c1_i32_27 k0_t4
  let c2_i32_28 : BitVec 32 := 2#32
  let v55 : BitVec 32 := Scalar.muli arg13 c2_i32_28
  let c128_i32 : BitVec 32 := 128#32
  let v56 : BitVec 32 := Scalar.muli v55 c128_i32
  v56
def k0_off6 (v8 : BitVec 32) (k0_t4 : Fin (k0_t4_loop v8).trips) : Fin 2 → Nat :=
  let c0_i32_24 : BitVec 32 := 0#32
  let c1_i32_15 : BitVec 32 := 1#32
  let v32 : BitVec 32 := Scalar.addi v8 c1_i32_15
  let c0_i32_17 : BitVec 32 := 0#32
  let v34 : BitVec 1 := Scalar.cmpi .sgt v32 c0_i32_17
  let v35 : BitVec 32 := Scalar.extui v34
  let c0_i32_18 : BitVec 32 := 0#32
  let v36 : BitVec 1 := Scalar.cmpi .slt v32 c0_i32_18
  let v37 : BitVec 32 := Scalar.extui v36
  let v38 : BitVec 32 := Scalar.subi v35 v37
  let c2_i32_16 : BitVec 32 := 2#32
  let c0_i32_19 : BitVec 32 := 0#32
  let v39 : BitVec 1 := Scalar.cmpi .sgt c2_i32_16 c0_i32_19
  let v40 : BitVec 32 := Scalar.extui v39
  let c0_i32_20 : BitVec 32 := 0#32
  let v41 : BitVec 1 := Scalar.cmpi .slt c2_i32_16 c0_i32_20
  let v42 : BitVec 32 := Scalar.extui v41
  let v43 : BitVec 32 := Scalar.subi v40 v42
  let v44 : BitVec 1 := Scalar.cmpi .ne v38 v43
  let v45 : BitVec 32 := Scalar.remsi v32 c2_i32_16
  let c0_i32_21 : BitVec 32 := 0#32
  let v46 : BitVec 1 := Scalar.cmpi .ne v45 c0_i32_21
  let v47 : BitVec 1 := Scalar.andi v44 v46
  let v33 : BitVec 32 := Scalar.divsi v32 c2_i32_16
  let c1_i32_22 : BitVec 32 := 1#32
  let v48 : BitVec 32 := Scalar.subi v33 c1_i32_22
  let v49 : BitVec 32 := Scalar.select v47 v48 v33
  let v50 : BitVec 32 := Scalar.subi v49 c0_i32_24
  let c1_i32_25 : BitVec 32 := 1#32
  let v52 : BitVec 32 := Scalar.divsi v50 c1_i32_25
  let v53 : BitVec 32 := Scalar.muli v52 c1_i32_25
  let v54 : BitVec 32 := Scalar.addi c0_i32_24 v53
  let c1_i32_27 : BitVec 32 := 1#32
  let arg13 : BitVec 32 := Scf.iv v54 c1_i32_27 k0_t4
  let c2_i32_28 : BitVec 32 := 2#32
  let v55 : BitVec 32 := Scalar.muli arg13 c2_i32_28
  let c128_i32 : BitVec 32 := 128#32
  let v56 : BitVec 32 := Scalar.muli v55 c128_i32
  let v57 : BitVec 32 := v56
  let v62 : Index := Scalar.indexCast v57
  let c0_29 : Index := 0#32
  ![v62.toNat, 0]

def k0_chk1 (v8 : BitVec 32) : Prop :=
  ((k0_t1_loop v8).OK) ∧
  (∀ k0_t1 : Fin (k0_t1_loop v8).trips, 128 ∣ (k0_mult1 v8 k0_t1).toNat) ∧
  (∀ k0_t1 : Fin (k0_t1_loop v8).trips, ∀ a, (k0_off2 v8 k0_t1) a + S128x1024.size a ≤ S1152x1024.size a) ∧
  (∀ k0_t1 : Fin (k0_t1_loop v8).trips, ∀ (hinb : ∀ a, (k0_off2 v8 k0_t1) a + S128x1024.size a ≤ S1152x1024.size a), (Rect.unit (s := S1152x1024) (k0_off2 v8 k0_t1) S128x1024.size hinb).PackedRows (EltTy.packing .bf16)) ∧
  ((k0_t2_loop v8).OK) ∧
  (∀ k0_t2 : Fin (k0_t2_loop v8).trips, 128 ∣ (k0_mult2 v8 k0_t2).toNat) ∧
  (∀ k0_t2 : Fin (k0_t2_loop v8).trips, ∀ a, (k0_off3 v8 k0_t2) a + S128x1024.size a ≤ S1152x1024.size a) ∧
  (∀ k0_t2 : Fin (k0_t2_loop v8).trips, ∀ (hinb : ∀ a, (k0_off3 v8 k0_t2) a + S128x1024.size a ≤ S1152x1024.size a), (Rect.unit (s := S1152x1024) (k0_off3 v8 k0_t2) S128x1024.size hinb).PackedRows (EltTy.packing .bf16)) ∧
  (∀ (k0_h2 : k0_cond2 v8 = 1#1), 128 ∣ (k0_mult3 v8).toNat) ∧
  (∀ (k0_h2 : k0_cond2 v8 = 1#1), ∀ a, (k0_off4 v8) a + S128x1024.size a ≤ S1152x1024.size a) ∧
  (∀ (k0_h2 : k0_cond2 v8 = 1#1), ∀ (hinb : ∀ a, (k0_off4 v8) a + S128x1024.size a ≤ S1152x1024.size a), (Rect.unit (s := S1152x1024) (k0_off4 v8) S128x1024.size hinb).PackedRows (EltTy.packing .bf16)) ∧
  ((k0_t3_loop v8).OK) ∧
  (∀ k0_t3 : Fin (k0_t3_loop v8).trips, 256 ∣ (k0_mult4 v8 k0_t3).toNat) ∧
  (∀ k0_t3 : Fin (k0_t3_loop v8).trips, ∀ a, (k0_off5 v8 k0_t3) a + S256x1024.size a ≤ S1152x1024.size a) ∧
  ((k0_t4_loop v8).OK) ∧
  (∀ k0_t4 : Fin (k0_t4_loop v8).trips, 256 ∣ (k0_mult5 v8 k0_t4).toNat) ∧
  (∀ k0_t4 : Fin (k0_t4_loop v8).trips, ∀ a, (k0_off6 v8 k0_t4) a + S256x1024.size a ≤ S1152x1024.size a)
theorem k0_t1_ok : ∀ (v8 : BitVec 32) (k0_hw1 : k0_chk1 v8), (k0_t1_loop v8).OK := fun v8 k0_hw1 => k0_hw1.1
theorem k0_mult1_dvd : ∀ (v8 : BitVec 32) (k0_hw1 : k0_chk1 v8) (k0_t1 : Fin (k0_t1_loop v8).trips), 128 ∣ (k0_mult1 v8 k0_t1).toNat := fun v8 k0_hw1 k0_t1 => k0_hw1.2.1 k0_t1
theorem k0_off2_inb : ∀ (v8 : BitVec 32) (k0_hw1 : k0_chk1 v8) (k0_t1 : Fin (k0_t1_loop v8).trips), ∀ a, (k0_off2 v8 k0_t1) a + S128x1024.size a ≤ S1152x1024.size a := fun v8 k0_hw1 k0_t1 => k0_hw1.2.2.1 k0_t1
theorem k0_off2_packedbf16 : ∀ (v8 : BitVec 32) (k0_hw1 : k0_chk1 v8) (k0_t1 : Fin (k0_t1_loop v8).trips), (Rect.unit (s := S1152x1024) (k0_off2 v8 k0_t1) S128x1024.size (k0_off2_inb v8 k0_hw1 k0_t1)).PackedRows (EltTy.packing .bf16) := fun v8 k0_hw1 k0_t1 => k0_hw1.2.2.2.1 k0_t1 (k0_off2_inb v8 k0_hw1 k0_t1)
theorem k0_t2_ok : ∀ (v8 : BitVec 32) (k0_hw1 : k0_chk1 v8), (k0_t2_loop v8).OK := fun v8 k0_hw1 => k0_hw1.2.2.2.2.1
theorem k0_mult2_dvd : ∀ (v8 : BitVec 32) (k0_hw1 : k0_chk1 v8) (k0_t2 : Fin (k0_t2_loop v8).trips), 128 ∣ (k0_mult2 v8 k0_t2).toNat := fun v8 k0_hw1 k0_t2 => k0_hw1.2.2.2.2.2.1 k0_t2
theorem k0_off3_inb : ∀ (v8 : BitVec 32) (k0_hw1 : k0_chk1 v8) (k0_t2 : Fin (k0_t2_loop v8).trips), ∀ a, (k0_off3 v8 k0_t2) a + S128x1024.size a ≤ S1152x1024.size a := fun v8 k0_hw1 k0_t2 => k0_hw1.2.2.2.2.2.2.1 k0_t2
theorem k0_off3_packedbf16 : ∀ (v8 : BitVec 32) (k0_hw1 : k0_chk1 v8) (k0_t2 : Fin (k0_t2_loop v8).trips), (Rect.unit (s := S1152x1024) (k0_off3 v8 k0_t2) S128x1024.size (k0_off3_inb v8 k0_hw1 k0_t2)).PackedRows (EltTy.packing .bf16) := fun v8 k0_hw1 k0_t2 => k0_hw1.2.2.2.2.2.2.2.1 k0_t2 (k0_off3_inb v8 k0_hw1 k0_t2)
theorem k0_mult3_dvd : ∀ (v8 : BitVec 32) (k0_hw1 : k0_chk1 v8), ∀ (k0_h2 : k0_cond2 v8 = 1#1), 128 ∣ (k0_mult3 v8).toNat := fun v8 k0_hw1 k0_h2 => k0_hw1.2.2.2.2.2.2.2.2.1 k0_h2
theorem k0_off4_inb : ∀ (v8 : BitVec 32) (k0_hw1 : k0_chk1 v8), ∀ (k0_h2 : k0_cond2 v8 = 1#1), ∀ a, (k0_off4 v8) a + S128x1024.size a ≤ S1152x1024.size a := fun v8 k0_hw1 k0_h2 => k0_hw1.2.2.2.2.2.2.2.2.2.1 k0_h2
theorem k0_off4_packedbf16 : ∀ (v8 : BitVec 32) (k0_hw1 : k0_chk1 v8), ∀ (k0_h2 : k0_cond2 v8 = 1#1), (Rect.unit (s := S1152x1024) (k0_off4 v8) S128x1024.size (k0_off4_inb v8 k0_hw1 k0_h2)).PackedRows (EltTy.packing .bf16) := fun v8 k0_hw1 k0_h2 => k0_hw1.2.2.2.2.2.2.2.2.2.2.1 k0_h2 (k0_off4_inb v8 k0_hw1 k0_h2)
theorem k0_t3_ok : ∀ (v8 : BitVec 32) (k0_hw1 : k0_chk1 v8), (k0_t3_loop v8).OK := fun v8 k0_hw1 => k0_hw1.2.2.2.2.2.2.2.2.2.2.2.1
theorem k0_mult4_dvd : ∀ (v8 : BitVec 32) (k0_hw1 : k0_chk1 v8) (k0_t3 : Fin (k0_t3_loop v8).trips), 256 ∣ (k0_mult4 v8 k0_t3).toNat := fun v8 k0_hw1 k0_t3 => k0_hw1.2.2.2.2.2.2.2.2.2.2.2.2.1 k0_t3
theorem k0_off5_inb : ∀ (v8 : BitVec 32) (k0_hw1 : k0_chk1 v8) (k0_t3 : Fin (k0_t3_loop v8).trips), ∀ a, (k0_off5 v8 k0_t3) a + S256x1024.size a ≤ S1152x1024.size a := fun v8 k0_hw1 k0_t3 => k0_hw1.2.2.2.2.2.2.2.2.2.2.2.2.2.1 k0_t3
theorem k0_t4_ok : ∀ (v8 : BitVec 32) (k0_hw1 : k0_chk1 v8), (k0_t4_loop v8).OK := fun v8 k0_hw1 => k0_hw1.2.2.2.2.2.2.2.2.2.2.2.2.2.2.1
theorem k0_mult5_dvd : ∀ (v8 : BitVec 32) (k0_hw1 : k0_chk1 v8) (k0_t4 : Fin (k0_t4_loop v8).trips), 256 ∣ (k0_mult5 v8 k0_t4).toNat := fun v8 k0_hw1 k0_t4 => k0_hw1.2.2.2.2.2.2.2.2.2.2.2.2.2.2.2.1 k0_t4
theorem k0_off6_inb : ∀ (v8 : BitVec 32) (k0_hw1 : k0_chk1 v8) (k0_t4 : Fin (k0_t4_loop v8).trips), ∀ a, (k0_off6 v8 k0_t4) a + S256x1024.size a ≤ S1152x1024.size a := fun v8 k0_hw1 k0_t4 => k0_hw1.2.2.2.2.2.2.2.2.2.2.2.2.2.2.2.2 k0_t4

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference3Ideal.lean ====
abbrev S8x8192x1024 : Shape := ⟨3, ![8, 8192, 1024]⟩
abbrev S8x16x1x8192 : Shape := ⟨4, ![8, 16, 1, 8192]⟩
abbrev S8x8192x16 : Shape := ⟨3, ![8, 8192, 16]⟩
abbrev S512 : Shape := ⟨1, ![512]⟩
abbrev S16x1024x1024 : Shape := ⟨3, ![16, 1024, 1024]⟩
abbrev S16x1024x8x8192 : Shape := ⟨4, ![16, 1024, 8, 8192]⟩
abbrev S8x16x8192x1024 : Shape := ⟨4, ![8, 16, 8192, 1024]⟩
abbrev S_ : Shape := ⟨0, ![]⟩
abbrev S8x16x8192 : Shape := ⟨3, ![8, 16, 8192]⟩
abbrev S8x16x8192x1 : Shape := ⟨4, ![8, 16, 8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x16x1x8192, .f32⟩
  | .hbm, ⟨2, _⟩ => ⟨S8x8192x16, .f32⟩
  | .hbm, ⟨3, _⟩ => ⟨S8x8192x16, .f32⟩
  | .hbm, ⟨4, _⟩ => ⟨S512, .i32⟩
  | .hbm, ⟨5, _⟩ => ⟨S16x1024x1024, .bf16⟩
  | .hbm, ⟨6, _⟩ => ⟨S16x1024x1024, .bf16⟩
  | .hbm, ⟨7, _⟩ => ⟨S16x1024x1024, .bf16⟩
  | .hbm, ⟨8, _⟩ => ⟨S8x8192x1024, .f32⟩
  | .hbm, ⟨9, _⟩ => ⟨S16x1024x1024, .f32⟩
  | .hbm, ⟨10, _⟩ => ⟨S16x1024x1024, .f32⟩
  | .hbm, ⟨11, _⟩ => ⟨S16x1024x1024, .f32⟩
  | .hbm, ⟨12, _⟩ => ⟨S16x1024x8x8192, .f32⟩
  | .hbm, ⟨13, _⟩ => ⟨S8x16x8192x1024, .f32⟩
  | .hbm, ⟨14, _⟩ => ⟨S8x16x8192x1024, .f32⟩
  | .hbm, ⟨15, _⟩ => ⟨S8x16x8192x1024, .f32⟩
  | .hbm, ⟨16, _⟩ => ⟨S_, .f32⟩
  | .hbm, ⟨17, _⟩ => ⟨S8x16x8192x1024, .f32⟩
  | .hbm, ⟨18, _⟩ => ⟨S8x16x8192x1024, .f32⟩
  | .hbm, ⟨19, _⟩ => ⟨S_, .f32⟩
  | .hbm, ⟨20, _⟩ => ⟨S8x16x8192x1024, .f32⟩
  | .hbm, ⟨21, _⟩ => ⟨S8x16x8192x1024, .f32⟩
  | .hbm, ⟨22, _⟩ => ⟨S8x16x8192x1024, .f32⟩
  | .hbm, ⟨23, _⟩ => ⟨S16x1024x8x8192, .f32⟩
  | .hbm, ⟨24, _⟩ => ⟨S8x16x8192x1024, .f32⟩
  | .hbm, ⟨25, _⟩ => ⟨S8x16x8192x1024, .f32⟩
  | .hbm, ⟨26, _⟩ => ⟨S16x1024x8x8192, .f32⟩
  | .hbm, ⟨27, _⟩ => ⟨S8x16x8192x1024, .f32⟩
  | .hbm, ⟨28, _⟩ => ⟨S8x16x8192, .f32⟩
  | .hbm, ⟨29, _⟩ => ⟨S8x16x8192x1, .f32⟩
  | .hbm, ⟨30, _⟩ => ⟨S8x16x8192x1024, .f32⟩
  | .hbm, ⟨31, _⟩ => ⟨S8x16x8192x1024, .f32⟩
  | .hbm, ⟨32, _⟩ => ⟨S_, .f32⟩
  | .hbm, ⟨33, _⟩ => ⟨S8x8192x16, .f32⟩
  | .hbm, ⟨34, _⟩ => ⟨S8x8192x16, .i1⟩
  | .hbm, ⟨35, _⟩ => ⟨S8x16x8192, .i1⟩
  | .hbm, ⟨36, _⟩ => ⟨S8x16x8192x1, .i1⟩
  | .hbm, ⟨37, _⟩ => ⟨S_, .f32⟩
  | .hbm, ⟨38, _⟩ => ⟨S_, .f32⟩
  | .hbm, ⟨39, _⟩ => ⟨S8x16x8192x1024, .i1⟩
  | .hbm, ⟨40, _⟩ => ⟨S8x16x8192x1024, .f32⟩
  | .hbm, ⟨41, _⟩ => ⟨S8x16x8192x1024, .f32⟩
  | .hbm, ⟨42, _⟩ => ⟨S_, .f32⟩
  | .hbm, ⟨43, _⟩ => ⟨S8x8192x1024, .f32⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩

abbrev nD : Nat := 1
abbrev τ : Topo := Topo.v7x

variable {F : FTy → Type} [FloatOps F]
-- ==== Proof.Flash.lean ====
/-
  What one grid point of the kernel leaves in its output block. The kernel walks the keys in 16 trips of 512 and keeps,
  per query row, a running maximum, a running sum and a running accumulator in three scratch buffers. `st` is that
  state after `k` trips, as the payloads of the skeleton compute it; `loop_state` says that the scratch buffers hold it,
  and `out_eq` that the output block is the last payload of the state after 16 trips.
-/
module

public import proofs.«01_k».proof.Proof.Gen.KernelIdeal.Value
public import Idealize.ShloMosaic.Lib.Pipeline.ValueKit
public import Idealize.ShloMosaic.Lib.Pointwise
public import Idealize.ShloMosaic.Lib.VecWindow

@[expose] public section

set_option maxRecDepth 16384

noncomputable section

namespace Cert.KernelIdeal.Flash

open Cert.KernelIdeal Cert.KernelIdeal.Gen Idealize.ShloMosaic Idealize.ShloMosaic.TcCoe Idealize.SL.Sem

variable {F : FTy → Type} [FloatOps F]

/-- The 512 keys of trip `k`. -/
def ktAt (X : Vec F S1x1x128x8192 .bf16) (k : ℕ) : Vec F S1x1x128x512 .bf16 :=
  fun y => X (ix4 (y 0) (y 1) (y 2) ⟨(512 * k + (y 3).val) % 8192, Nat.mod_lt _ (by decide)⟩)

/-- The 512 values of trip `k`. -/
def vAt (X : Vec F S1x1x8192x128 .bf16) (k : ℕ) : Vec F S1x1x512x128 .bf16 :=
  fun y => X (ix4 (y 0) (y 1) ⟨(512 * k + (y 2).val) % 8192, Nat.mod_lt _ (by decide)⟩ (y 3))

/-- Running maximum, running sum and running accumulator after `k` trips. -/
def st (v0 : Vec F S1x1x1024x128 .bf16) (X4 : Vec F S1x1x128x8192 .bf16) (X5 : Vec F S1x1x8192x128 .bf16) :
    ℕ → FVec F S1024x1 .f32 × FVec F S1024x1 .f32 × FVec F S1024x128 .f32
  | 0 => (k0_pay2, k0_pay3, k0_pay4)
  | k + 1 =>
    (k0_pay5 (k0_pay8 (k0_pay1 v0) (ktAt X4 k) (st v0 X4 X5 k).1),
      k0_pay11 (k0_pay1 v0) (ktAt X4 k) (st v0 X4 X5 k).1 (st v0 X4 X5 k).2.1,
      k0_pay12 (k0_pay1 v0) (ktAt X4 k) (st v0 X4 X5 k).1 (vAt X5 k) (st v0 X4 X5 k).2.2)

/-- The trip's load of keys starts at `512 k`. -/
theorem off1_eq : ∀ k : Fin k0_t1_loop.trips, k0_off1 k = ![0, 0, 0, 512 * k.val] := by decide +kernel

/-- The trip's load of values starts at `512 k`. -/
theorem off2_eq : ∀ k : Fin k0_t1_loop.trips, k0_off2 k = ![0, 0, 512 * k.val, 0] := by decide +kernel

theorem trips_eq : k0_t1_loop.trips = 16 := by decide +kernel

theorem ld_kt (X : Vec F S1x1x128x8192 .bf16) (k : Fin k0_t1_loop.trips) (h : ∀ a, k0_off1 k a + S1x1x128x512.size a ≤ S1x1x128x8192.size a) :
    View.ld X (Rect.unit (s := S1x1x128x8192) (k0_off1 k) S1x1x128x512.size h) = ktAt X k.val := by
  have hk : k.val < 16 := lt_of_lt_of_eq k.isLt trips_eq
  have e1 := off1_eq k
  funext y
  show X _ = X _
  congr 1
  funext j
  apply Fin.ext
  have b0 := (y 0).isLt
  have b1 := (y 1).isLt
  have b2 := (y 2).isLt
  have b3 := (y 3).isLt
  match j with
  | ⟨0, _⟩ => exact (Rect.idx_unit_val ..).trans (by simp [e1, ix4])
  | ⟨1, _⟩ => exact (Rect.idx_unit_val ..).trans (by simp [e1, ix4])
  | ⟨2, _⟩ => exact (Rect.idx_unit_val ..).trans (by simp [e1, ix4] at b2 ⊢; try omega)
  | ⟨3, _⟩ => exact (Rect.idx_unit_val ..).trans (by simp [e1, ix4] at b3 ⊢; try omega)

theorem ld_v (X : Vec F S1x1x8192x128 .bf16) (k : Fin k0_t1_loop.trips) (h : ∀ a, k0_off2 k a + S1x1x512x128.size a ≤ S1x1x8192x128.size a) :
    View.ld X (Rect.unit (s := S1x1x8192x128) (k0_off2 k) S1x1x512x128.size h) = vAt X k.val := by
  have hk : k.val < 16 := lt_of_lt_of_eq k.isLt trips_eq
  have e1 := off2_eq k
  funext y
  show X _ = X _
  congr 1
  funext j
  apply Fin.ext
  have b0 := (y 0).isLt
  have b1 := (y 1).isLt
  have b2 := (y 2).isLt
  have b3 := (y 3).isLt
  match j with
  | ⟨0, _⟩ => exact (Rect.idx_unit_val ..).trans (by simp [e1, ix4])
  | ⟨1, _⟩ => exact (Rect.idx_unit_val ..).trans (by simp [e1, ix4])
  | ⟨2, _⟩ => exact (Rect.idx_unit_val ..).trans (by simp [e1, ix4] at b2 ⊢; try omega)
  | ⟨3, _⟩ => exact (Rect.idx_unit_val ..).trans (by simp [e1, ix4] at b3 ⊢; try omega)

section
variable (𝒱 : Variants) (c : Dev nD) (bd : Option 𝒱.V) (i : grid0.Coords) (arg3 : Memref sig .tc .vmem S1x1x1024x128 .bf16) (harg3 : arg3.IsWhole) (arg4 : Memref sig .tc .vmem S1x1x128x8192 .bf16) (harg4 : arg4.IsWhole) (arg5 : Memref sig .tc .vmem S1x1x8192x128 .bf16) (harg5 : arg5.IsWhole) (arg6 : Memref sig .tc .vmem S1x1024x128 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (v0 : Vec F S1x1x1024x128 .bf16) (X_arg4 : BufTy.Contents (Elt F) arg4.view.ty) (X_arg5 : BufTy.Contents (Elt F) arg5.view.ty)

theorem tripL_eq (k : Fin k0_t1_loop.trips) (f7 : BufTy.Contents (Elt F) arg7.view.ty) (f8 : BufTy.Contents (Elt F) arg8.view.ty) (f9 : BufTy.Contents (Elt F) arg9.view.ty) :
    tripL_k0_t1 (F := F) 𝒱 c bd i arg3 harg3 arg4 harg4 arg5 harg5 arg6 harg6 arg7 harg7 arg8 harg8 arg9 harg9 v0 X_arg4 X_arg5 k f7 f8 f9 =
      ([⟨Rect.unit (s := S1024x1) ![0, 0] S1024x1.size inb_S1024x1_S1024x1_0_0, k0_pay5 (k0_pay8 (k0_pay1 v0)
          (View.readAt (Elt F) arg4.view (Rect.unit (s := S1x1x128x8192) (k0_off1 k) S1x1x128x512.size (k0_off1_inb k)).toLoadRect X_arg4)
          (View.readAt (Elt F) arg7.view (Rect.unit (s := S1024x1) ![0, 0] S1024x1.size inb_S1024x1_S1024x1_0_0).toLoadRect f7))⟩],
        [⟨Rect.unit (s := S1024x1) ![0, 0] S1024x1.size inb_S1024x1_S1024x1_0_0, k0_pay11 (k0_pay1 v0)
          (View.readAt (Elt F) arg4.view (Rect.unit (s := S1x1x128x8192) (k0_off1 k) S1x1x128x512.size (k0_off1_inb k)).toLoadRect X_arg4)
          (View.readAt (Elt F) arg7.view (Rect.unit (s := S1024x1) ![0, 0] S1024x1.size inb_S1024x1_S1024x1_0_0).toLoadRect f7)
          (View.readAt (Elt F) arg8.view (Rect.unit (s := S1024x1) ![0, 0] S1024x1.size inb_S1024x1_S1024x1_0_0).toLoadRect f8)⟩],
        [⟨Rect.unit (s := S1024x128) ![0, 0] S1024x128.size inb_S1024x128_S1024x128_0_0, k0_pay12 (k0_pay1 v0)
          (View.readAt (Elt F) arg4.view (Rect.unit (s := S1x1x128x8192) (k0_off1 k) S1x1x128x512.size (k0_off1_inb k)).toLoadRect X_arg4)
          (View.readAt (Elt F) arg7.view (Rect.unit (s := S1024x1) ![0, 0] S1024x1.size inb_S1024x1_S1024x1_0_0).toLoadRect f7)
          (View.readAt (Elt F) arg5.view (Rect.unit (s := S1x1x8192x128) (k0_off2 k) S1x1x512x128.size (k0_off2_inb k)).toLoadRect X_arg5)
          (View.readAt (Elt F) arg9.view (Rect.unit (s := S1024x128) ![0, 0] S1024x128.size inb_S1024x128_S1024x128_0_0).toLoadRect f9)⟩]) := by
  unfold tripL_k0_t1 trip_k0_t1
  dsimp only
  sl_unfold_words
  rfl

theorem loop_state (x4 : Vec F S1x1x128x8192 .bf16) (x5 : Vec F S1x1x8192x128 .bf16)
    (h4 : View.read (Elt F) arg4.view X_arg4 = x4) (h5 : View.read (Elt F) arg5.view X_arg5 = x5)
    (G7 : BufTy.Contents (Elt F) arg7.view.ty) (G8 : BufTy.Contents (Elt F) arg8.view.ty) (G9 : BufTy.Contents (Elt F) arg9.view.ty)
    (h7 : View.read (Elt F) arg7.view G7 = k0_pay2) (h8 : View.read (Elt F) arg8.view G8 = k0_pay3)
    (h9 : View.read (Elt F) arg9.view G9 = k0_pay4) : ∀ k : ℕ, k ≤ k0_t1_loop.trips →
    View.read (Elt F) arg7.view (arg7.view.writes (Elt F) G7 (pb_k0_t1 (F := F) 𝒱 c bd i arg3 harg3 arg4 harg4 arg5 harg5 arg6 harg6 arg7 harg7 arg8 harg8 arg9 harg9 v0 X_arg4 X_arg5 G7 G8 G9 k).1) = (st v0 x4 x5 k).1
    ∧ View.read (Elt F) arg8.view (arg8.view.writes (Elt F) G8 (pb_k0_t1 (F := F) 𝒱 c bd i arg3 harg3 arg4 harg4 arg5 harg5 arg6 harg6 arg7 harg7 arg8 harg8 arg9 harg9 v0 X_arg4 X_arg5 G7 G8 G9 k).2.1) = (st v0 x4 x5 k).2.1
    ∧ View.read (Elt F) arg9.view (arg9.view.writes (Elt F) G9 (pb_k0_t1 (F := F) 𝒱 c bd i arg3 harg3 arg4 harg4 arg5 harg5 arg6 harg6 arg7 harg7 arg8 harg8 arg9 harg9 v0 X_arg4 X_arg5 G7 G8 G9 k).2.2) = (st v0 x4 x5 k).2.2
  | 0, _ => ⟨h7, h8, h9⟩
  | k + 1, hk => by
    obtain ⟨i7, i8, i9⟩ := loop_state x4 x5 h4 h5 G7 G8 G9 h7 h8 h9 k (Nat.le_of_succ_le hk)
    have e := pb_k0_t1_succ (F := F) 𝒱 c bd i arg3 harg3 arg4 harg4 arg5 harg5 arg6 harg6 arg7 harg7 arg8 harg8 arg9 harg9 v0 X_arg4 X_arg5 G7 G8 G9 ⟨k, hk⟩
    rw [tripL_eq] at e
    dsimp only at e
    rw [e]
    refine ⟨(View.read_writes_full _ _ _ _ _).trans ?_, (View.read_writes_full _ _ _ _ _).trans ?_, (View.read_writes_full _ _ _ _ _).trans ?_⟩
    all_goals
      rw [View.readAt_full, View.readAt_eq_ld, ld_kt, h4, i7]
    · rfl
    · rw [View.readAt_full, i8]; rfl
    · rw [View.readAt_full, View.readAt_eq_ld, ld_v, h5, i9]; rfl
end

/-- The output block of a grid point is the last payload, of the state after 16 trips. -/
theorem out_eq (c : Dev nD) (i : grid0.Coords) (m0 : Memref sig .tc .vmem S1x1x1024x128 .bf16) (h0 : m0.IsWhole)
    (m1 : Memref sig .tc .vmem S1x1x128x8192 .bf16) (h1 : m1.IsWhole) (m2 : Memref sig .tc .vmem S1x1x8192x128 .bf16)
    (h2 : m2.IsWhole) (m3 : Memref sig .tc .vmem S1x1024x128 .bf16) (h3 : m3.IsWhole)
    (x0 : Vec F S1x1x1024x128 .bf16) (x1 : Vec F S1x1x128x8192 .bf16) (x2 : Vec F S1x1x8192x128 .bf16) :
    out0_A_3 (F := F) c i m0 h0 m1 h1 m2 h2 m3 h3 scM0_0 (Memref.isWhole_whole _) scM0_1 (Memref.isWhole_whole _)
      scM0_2 (Memref.isWhole_whole _) x0 x1 x2 = k0_pay6 (st x0 x1 x2 16).2.2 (st x0 x1 x2 16).2.1 := by
  have key := loop_state (F := F) Variants.none c none i m0 h0 m1 h1 m2 h2 m3 h3 scM0_0 (Memref.isWhole_whole _) scM0_1
    (Memref.isWhole_whole _) scM0_2 (Memref.isWhole_whole _) x0 (h1.unread x1) (h2.unread x2) x1 x2
    (h1.read_unread x1) (h2.read_unread x2)
    (scM0_0.view.writes (Elt F) scM0_0.view.junk [⟨Rect.unit (s := S1024x1) ![0, 0] S1024x1.size inb_S1024x1_S1024x1_0_0, k0_pay2⟩])
    (scM0_1.view.writes (Elt F) scM0_1.view.junk [⟨Rect.unit (s := S1024x1) ![0, 0] S1024x1.size inb_S1024x1_S1024x1_0_0, k0_pay3⟩])
    (scM0_2.view.writes (Elt F) scM0_2.view.junk [⟨Rect.unit (s := S1024x128) ![0, 0] S1024x128.size inb_S1024x128_S1024x128_0_0, k0_pay4⟩])
    (View.read_writes_full _ _ _ _ _) (View.read_writes_full _ _ _ _ _) (View.read_writes_full _ _ _ _ _) k0_t1_loop.trips le_rfl
  frame_out
  rw [trips_eq] at key
  refine congrArg₂ k0_pay6 ?_ ?_
  · refine (View.readAt_full _ _ _).trans ?_
    rw [View.writes_append]
    exact key.2.2
  · refine (View.readAt_full _ _ _).trans ?_
    rw [View.writes_append]
    exact key.2.1

end Cert.KernelIdeal.Flash
end
-- ==== Proof.Online.lean ====
/-
  The online softmax, as a fact about sums over the extended reals. A row of scores `s` (real numbers) is met in blocks of
  `n`; `m`, `l` and `a` are the running maximum, the running sum of exponentials and the running weighted sum of the
  values `v`, the last two rescaled when the maximum grows. After `k` blocks they are what one computes from the first
  `n * k` scores at once (`online_state`), and their last quotient is the softmax-weighted sum (`online`). The values are
  arbitrary extended reals.
-/
module

public import Idealize.ShloMosaic.PureOps
public import Idealize.ShloMosaic.Lib.Pointwise

@[expose] public section

noncomputable section

namespace Cert.Online

open Idealize.ShloMosaic

/-- A nonnegative real factor goes into a sum. -/
theorem mul_sum' {ι : Type} (t : Finset ι) (f : ι → EReal) {c : EReal} (h0 : 0 ≤ c) (h1 : c ≠ ⊤) :
    c * ∑ j ∈ t, f j = ∑ j ∈ t, c * f j := by
  classical
  induction t using Finset.induction_on with
  | empty => simp
  | insert a t ha ih => rw [Finset.sum_insert ha, Finset.sum_insert ha, EReal.left_distrib_of_nonneg_of_ne_top h0 h1, ih]

theorem sum_mul' {ι : Type} (t : Finset ι) (f : ι → EReal) {c : EReal} (h0 : 0 ≤ c) (h1 : c ≠ ⊤) :
    (∑ j ∈ t, f j) * c = ∑ j ∈ t, f j * c := by
  rw [mul_comm, mul_sum' t f h0 h1]; simp only [mul_comm]

theorem exp_coe (r : ℝ) : Ideal.exp (r : EReal) = ((Real.exp r : ℝ) : EReal) := rfl

theorem exp_nonneg : ∀ x : EReal, 0 ≤ Ideal.exp x
  | ⊥ => le_refl _
  | ⊤ => le_top
  | (r : ℝ) => by rw [exp_coe]; exact_mod_cast (Real.exp_pos r).le

/-- Moving an exponential from the maximum `m` to the maximum `m'`. -/
theorem exp_rescale (s m m' : ℝ) :
    Ideal.exp ((m : EReal) - m') * Ideal.exp ((s : EReal) - m) = Ideal.exp ((s : EReal) - m') := by
  rw [← EReal.coe_sub, ← EReal.coe_sub, ← EReal.coe_sub, exp_coe, exp_coe, exp_coe, ← EReal.coe_mul, ← Real.exp_add]
  congr 2; ring

/-- A sum of real exponentials is a real number. -/
theorem sum_exp_coe {ι : Type} (t : Finset ι) (s : ι → ℝ) (m : ℝ) :
    ∑ j ∈ t, Ideal.exp ((s j : EReal) - m) = ((∑ j ∈ t, Real.exp (s j - m) : ℝ) : EReal) := by
  classical
  induction t using Finset.induction_on with
  | empty => simp
  | insert a t ha ih => rw [Finset.sum_insert ha, Finset.sum_insert ha, ih, ← EReal.coe_sub, exp_coe, ← EReal.coe_add]

/-- The greatest of the first `k` scores; `⊥` of none. -/
def top (s : ℕ → ℝ) (k : ℕ) : EReal := (Finset.range k).sup fun j => (s j : EReal)

/-- The greatest of at least one score is a real number. -/
theorem top_real (s : ℕ → ℝ) (k : ℕ) (hk : 0 < k) : ∃ r : ℝ, top s k = r := by
  obtain ⟨j, _, hj⟩ := Finset.exists_mem_eq_sup (Finset.range k) ⟨0, Finset.mem_range.2 hk⟩ fun j => (s j : EReal)
  exact ⟨s j, hj⟩

theorem fold_eq (n : ℕ) (f : ℕ → EReal) :
    (Finset.univ : Finset (Fin n)).fold max ⊥ (fun j => f j.val) = (Finset.range n).sup f := by
  change (Finset.univ : Finset (Fin n)).sup (fun j => f j.val) = _
  refine le_antisymm (Finset.sup_le fun j _ => Finset.le_sup (f := f) (Finset.mem_range.2 j.isLt)) (Finset.sup_le fun j hj => ?_)
  exact Finset.le_sup (f := fun j : Fin n => f j.val) (Finset.mem_univ (⟨j, Finset.mem_range.1 hj⟩ : Fin n))

theorem top_add (s : ℕ → ℝ) (a b : ℕ) :
    max (top s a) ((Finset.range b).sup fun j => (s (a + j) : EReal)) = top s (a + b) := by
  refine le_antisymm (max_le ?_ ?_) (Finset.sup_le fun j hj => ?_)
  · exact Finset.sup_le fun j hj => Finset.le_sup (f := fun j => (s j : EReal)) (Finset.mem_range.2 (by have := Finset.mem_range.1 hj; omega))
  · exact Finset.sup_le fun j hj => Finset.le_sup (f := fun j => (s j : EReal)) (Finset.mem_range.2 (by have := Finset.mem_range.1 hj; omega))
  · by_cases h : j < a
    · exact le_max_of_le_left (Finset.le_sup (f := fun j => (s j : EReal)) (Finset.mem_range.2 h))
    · refine le_max_of_le_right ?_
      have := Finset.le_sup (f := fun j => (s (a + j) : EReal)) (Finset.mem_range.2 (show j - a < b by have := Finset.mem_range.1 hj; omega))
      rwa [show a + (j - a) = j by omega] at this

/-- The state after `k` blocks, from the first `n * k` scores at once. -/
theorem online_state (n : ℕ) (hn : 0 < n) (s : ℕ → ℝ) (v : ℕ → EReal) (m l a : ℕ → EReal) (K : ℕ)
    (m0 : m 0 = ⊥) (l0 : l 0 = 0) (a0 : a 0 = 0)
    (hm : ∀ k < K, m (k + 1) = max (m k) ((Finset.univ : Finset (Fin n)).fold max ⊥ fun j => (s (n * k + j.val) : EReal)))
    (hl : ∀ k < K, l (k + 1) = Ideal.exp (m k - m (k + 1)) * l k + ∑ j : Fin n, Ideal.exp (s (n * k + j.val) - m (k + 1)))
    (ha : ∀ k < K, a (k + 1) = a k * Ideal.exp (m k - m (k + 1))
      + ∑ j : Fin n, Ideal.exp (s (n * k + j.val) - m (k + 1)) * v (n * k + j.val)) :
    ∀ k ≤ K, m k = top s (n * k) ∧ l k = ∑ j ∈ Finset.range (n * k), Ideal.exp (s j - m k)
      ∧ a k = ∑ j ∈ Finset.range (n * k), Ideal.exp (s j - m k) * v j
  | 0, _ => by simp [m0, l0, a0, top]
  | k + 1, hk => by
    obtain ⟨im, il, ia⟩ := online_state n hn s v m l a K m0 l0 a0 hm hl ha k (Nat.le_of_succ_le hk)
    have em : m (k + 1) = top s (n * (k + 1)) := by
      rw [hm k hk, fold_eq n fun j => (s (n * k + j) : EReal), im, top_add, Nat.mul_succ]
    obtain ⟨r', hr'⟩ := top_real s (n * (k + 1)) (Nat.mul_pos hn k.succ_pos)
    rw [← em] at hr'
    have resc : ∀ j ∈ Finset.range (n * k), Ideal.exp (m k - m (k + 1)) * Ideal.exp (s j - m k) = Ideal.exp (s j - m (k + 1)) := by
      intro j hj
      obtain ⟨r, hr⟩ := top_real s (n * k) (by have := Finset.mem_range.1 hj; omega)
      rw [im, hr, hr']; exact exp_rescale _ _ _
    have fin : n * k ≠ 0 → Ideal.exp (m k - m (k + 1)) ≠ ⊤ := by
      intro h
      obtain ⟨r, hr⟩ := top_real s (n * k) (Nat.pos_of_ne_zero h)
      rw [im, hr, hr', ← EReal.coe_sub, exp_coe]; exact EReal.coe_ne_top _
    refine ⟨em, ?_, ?_⟩
    · rw [hl k hk, il, Nat.mul_succ, Finset.sum_range_add, Finset.sum_range (n := n)]
      congr 1
      by_cases h : n * k = 0
      · simp [h]
      · rw [mul_sum' _ _ (exp_nonneg _) (fin h)]; exact Finset.sum_congr rfl resc
    · rw [ha k hk, ia, Nat.mul_succ, Finset.sum_range_add, Finset.sum_range (n := n)]
      congr 1
      by_cases h : n * k = 0
      · simp [h]
      · rw [sum_mul' _ _ (exp_nonneg _) (fin h)]
        exact Finset.sum_congr rfl fun j hj => by rw [mul_right_comm, mul_comm (Ideal.exp _) (Ideal.exp (m k - _)), resc j hj]

/-- The quotient at the end of the walk is the sum of the values weighted by the softmax of all the scores. -/
theorem online (n N : ℕ) (hn : 0 < n) (s : ℕ → ℝ) (v : ℕ → EReal) (m l a : ℕ → EReal) (K : ℕ) (hK : 0 < K) (hN : N = n * K)
    (m0 : m 0 = ⊥) (l0 : l 0 = 0) (a0 : a 0 = 0)
    (hm : ∀ k < K, m (k + 1) = max (m k) ((Finset.univ : Finset (Fin n)).fold max ⊥ fun j => (s (n * k + j.val) : EReal)))
    (hl : ∀ k < K, l (k + 1) = Ideal.exp (m k - m (k + 1)) * l k + ∑ j : Fin n, Ideal.exp (s (n * k + j.val) - m (k + 1)))
    (ha : ∀ k < K, a (k + 1) = a k * Ideal.exp (m k - m (k + 1))
      + ∑ j : Fin n, Ideal.exp (s (n * k + j.val) - m (k + 1)) * v (n * k + j.val)) :
    Ideal.div (a K) (l K) = ∑ j : Fin N,
      Ideal.div (Ideal.exp (s j.val - (Finset.univ : Finset (Fin N)).fold max ⊥ fun j => (s j.val : EReal)))
        (∑ j' : Fin N, Ideal.exp (s j'.val - (Finset.univ : Finset (Fin N)).fold max ⊥ fun j => (s j.val : EReal))) * v j.val := by
  subst hN
  obtain ⟨em, el, ea⟩ := online_state n hn s v m l a K m0 l0 a0 hm hl ha K le_rfl
  rw [fold_eq (n * K) fun j => (s j : EReal)]
  change _ = ∑ j : Fin (n * K), Ideal.div (Ideal.exp (s j.val - top s (n * K))) (∑ j' : Fin (n * K), Ideal.exp (s j'.val - top s (n * K))) * v j.val
  rw [← em, ← Finset.sum_range (fun j => Ideal.exp (s j - m K)), ← el,
    ← Finset.sum_range (fun j => Ideal.div (Ideal.exp (s j - m K)) (l K) * v j), ea]
  obtain ⟨r, hr⟩ := top_real s (n * K) (Nat.mul_pos hn hK)
  rw [← em] at hr
  have lr : l K = ((∑ j ∈ Finset.range (n * K), Real.exp (s j - r) : ℝ) : EReal) := by rw [el, hr, sum_exp_coe]
  have pos : 0 < ∑ j ∈ Finset.range (n * K), Real.exp (s j - r) :=
    Finset.sum_pos (fun j _ => Real.exp_pos _) ⟨0, Finset.mem_range.2 (Nat.mul_pos hn hK)⟩
  have ne : l K ≠ 0 := by rw [lr]; exact_mod_cast pos.ne'
  have inv : (l K)⁻¹ = (((∑ j ∈ Finset.range (n * K), Real.exp (s j - r))⁻¹ : ℝ) : EReal) := by rw [lr, EReal.coe_inv]
  have h0 : 0 ≤ (l K)⁻¹ := by rw [inv]; exact_mod_cast (inv_pos.2 pos).le
  have h1 : (l K)⁻¹ ≠ ⊤ := by rw [inv]; exact EReal.coe_ne_top _
  unfold Ideal.div
  rw [if_neg ne, sum_mul' _ _ h0 h1]
  exact Finset.sum_congr rfl fun j _ => by rw [if_neg ne, mul_right_comm]

/-- The values `V` of one query, weighted by the softmax of its scores `S`. -/
def attn {N : ℕ} (S V : Fin N → EReal) : EReal :=
  ∑ j, Ideal.div (Ideal.exp (S j - (Finset.univ : Finset (Fin N)).fold max ⊥ S))
    (∑ j', Ideal.exp (S j' - (Finset.univ : Finset (Fin N)).fold max ⊥ S)) * V j

/-- `online` for scores and values given over `Fin N`, the blocks read modulo `N`. -/
theorem online_attn {n N K : ℕ} (hn : 0 < n) (hK : 0 < K) (hN : N = n * K) (pos : 0 < N) (S V : Fin N → EReal)
    (hS : ∀ j, ∃ r : ℝ, S j = r) (m l a : ℕ → EReal) (m0 : m 0 = ⊥) (l0 : l 0 = 0) (a0 : a 0 = 0)
    (hm : ∀ k, m (k + 1) = max (m k) ((Finset.univ : Finset (Fin n)).fold max ⊥ fun j => S ⟨(n * k + j.val) % N, Nat.mod_lt _ pos⟩))
    (hl : ∀ k, l (k + 1) = Ideal.exp (m k - m (k + 1)) * l k
      + ∑ j : Fin n, Ideal.exp (S ⟨(n * k + j.val) % N, Nat.mod_lt _ pos⟩ - m (k + 1)))
    (ha : ∀ k, a (k + 1) = a k * Ideal.exp (m k - m (k + 1))
      + ∑ j : Fin n, Ideal.exp (S ⟨(n * k + j.val) % N, Nat.mod_lt _ pos⟩ - m (k + 1)) * V ⟨(n * k + j.val) % N, Nat.mod_lt _ pos⟩) :
    Ideal.div (a K) (l K) = attn S V := by
  choose s hs using hS
  have e := online n N hn (fun j => s ⟨j % N, Nat.mod_lt _ pos⟩) (fun j => V ⟨j % N, Nat.mod_lt _ pos⟩) m l a K hK hN m0 l0 a0
    (fun k _ => by rw [hm k]; simp only [hs]) (fun k _ => by rw [hl k]; simp only [hs]) (fun k _ => by rw [ha k]; simp only [hs])
  rw [e]
  unfold attn
  simp only [← hs, Nat.mod_eq_of_lt (Fin.isLt _)]

/-- A sum of products of real numbers is a real number. -/
theorem dot_real {ι : Type} (t : Finset ι) (f g : ι → EReal) (hf : ∀ j, ∃ r : ℝ, f j = r) (hg : ∀ j, ∃ r : ℝ, g j = r) :
    ∃ r : ℝ, ∑ j ∈ t, f j * g j = r := by
  classical
  choose x hx using hf
  choose y hy using hg
  refine ⟨∑ j ∈ t, x j * y j, ?_⟩
  induction t using Finset.induction_on with
  | empty => simp
  | insert a t ha ih => rw [Finset.sum_insert ha, Finset.sum_insert ha, ih, hx, hy, ← EReal.coe_mul, ← EReal.coe_add]

end Cert.Online

end
-- ==== Proof.RowMax.lean ====
/-
  The greatest element of a row, as the kernel and the reference compute it, for rows of any length.
-/
module

public import Idealize.ShloMosaic.PureOps
public import Idealize.ShloMosaic.Lib.Pointwise

@[expose] public section

noncomputable section

namespace Cert.RowMax

open Idealize.ShloMosaic

/-- The pattern of minus infinity denotes `⊥`. -/
theorem ofBits_neg_inf : FloatOps.ofBits (F := Ideal) FTy.f32 0xFF800000#32 = (⊥ : EReal) := by
  simp [Ideal.ofBits_def, Ideal.ofBits, Ideal.ieee]

/-- The greater of two tensors, at an index. -/
theorem maximumf_at {s : Shape} (x y : FVec Ideal s .f32) (i : s.Idx) : maximumf x y i = max (x i) (y i) := rfl

/-- A constant of minus infinity spread over a shape, at an index. -/
theorem neg_inf_at {s t : Shape} (dims : Fin s.rank → Fin t.rank) (h : s.BroadcastsInDim t dims) (i : t.Idx) :
    broadcastInDim t dims h (constant (F := Ideal) s .f32 0xFF800000#32) i = (⊥ : EReal) := ofBits_neg_inf

/-- A constant of minus infinity, at an index. -/
theorem neg_inf_const {s : Shape} (i : s.Idx) : constant (F := Ideal) s .f32 0xFF800000#32 i = (⊥ : EReal) := ofBits_neg_inf

/-- The reference's maximum over the last of five axes. -/
theorem host5 {n0 n1 n2 n3 n4 : ℕ} {u : Shape} (x : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce FloatOps.maximumf x init h hu (ix4 a b c d)
      = (Finset.univ : Finset (Fin n4)).fold max (init (Shape.Idx.first hu)) fun k => x (ix5 a b c d k) := by
  rw [Host.reduce_eq_fold, h.fold_fiber_r5_a4]
  rfl

/-- The kernel's maximum over the second of two axes, from minus infinity. -/
theorem kernel2 {n0 n1 : ℕ} (x : FVec Ideal ⟨2, ![n0, n1]⟩ .f32) (h : (⟨2, ![n0, n1]⟩ : Shape).Reduces [1] ⟨1, ![n0]⟩)
    (hφ : FKind.Formats .f32) (hacc : 0xFF800000#32 = FKind.maximumf.neutral .f32 hφ) (a : Fin n0) :
    multiReduction .maximumf [1] ⟨1, ![n0]⟩ x 0xFF800000#32 h hφ hacc (ix1 a)
      = (Finset.univ : Finset (Fin n1)).fold max ⊥ fun k => x (ix2 a k) := by
  rw [multiReduction_maximumf_eq_fold, h.fold_fiber_r2_a1, ofBits_neg_inf]
  rfl

end Cert.RowMax

end
-- ==== Proof.FlashIdeal.lean ====
/-
  The kernel's output block over the extended reals: row `r`, column `d` of it is the softmax-weighted sum of column `d` of
  the block's values, at the scores of query `r` against the block's keys (`block_eq`). The scores are assumed real.
-/
module

public import proofs.«01_k».proof.Proof.Flash
public import proofs.«01_k».proof.Proof.Online
public import proofs.«01_k».proof.Proof.RowMax

@[expose] public section

set_option maxRecDepth 16384

noncomputable section

namespace Cert.KernelIdeal.Flash

open Cert.KernelIdeal Cert.KernelIdeal.Gen Idealize.ShloMosaic Idealize.ShloMosaic.TcCoe Idealize.SL.Sem Cert.Online

/-- A vector as a column, at an index. -/
theorem col_apply (x : FVec Ideal S1024 .f32) (h : S1024.ShapeCasts S1024x1) (r : Fin 1024) :
    shapeCast S1024x1 x h (ix2 r 0) = x (ix1 r) := by
  pointwise

section
variable (v0 : Vec Ideal S1x1x1024x128 .bf16) (X4 : Vec Ideal S1x1x128x8192 .bf16) (X5 : Vec Ideal S1x1x8192x128 .bf16)

/-- The score of query `r` against key `j`. -/
def score (r : Fin 1024) (j : Fin 8192) : EReal := ∑ e : Fin 128, v0 (ix4 0 0 r e) * X4 (ix4 0 0 e j)

theorem pay7_eq (k : ℕ) (r : Fin 1024) (x : Fin 512) : k0_pay7 (F := Ideal) (k0_pay1 v0) (ktAt X4 k) (ix2 r x)
    = score v0 X4 r ⟨(512 * k + x.val) % 8192, Nat.mod_lt _ (by decide)⟩ := by
  pointwise [k0_pay7, k0_pay1, ktAt]
  rfl

theorem pay8_eq (k : ℕ) (m : Vec Ideal S1024x1 .f32) (r : Fin 1024) : k0_pay8 (F := Ideal) (k0_pay1 v0) (ktAt X4 k) m (ix2 r 0)
    = max (m (ix2 r 0)) ((Finset.univ : Finset (Fin 512)).fold max ⊥ fun x =>
      score v0 X4 r ⟨(512 * k + x.val) % 8192, Nat.mod_lt _ (by decide)⟩) := by
  unfold k0_pay8
  rw [RowMax.maximumf_at, col_apply]
  refine congrArg (max (m (ix2 r 0))) ((RowMax.kernel2 _ _ _ _ r).trans ?_)
  simp only [pay7_eq]

theorem st_zero1 : (st (F := Ideal) v0 X4 X5 0).1 = k0_pay2 := rfl
theorem st_zero2 : (st (F := Ideal) v0 X4 X5 0).2.1 = k0_pay3 := rfl
theorem st_zero3 : (st (F := Ideal) v0 X4 X5 0).2.2 = k0_pay4 := rfl
theorem st_succ1 (k : ℕ) : (st (F := Ideal) v0 X4 X5 (k + 1)).1
    = k0_pay5 (k0_pay8 (k0_pay1 v0) (ktAt X4 k) (st v0 X4 X5 k).1) := rfl
theorem st_succ2 (k : ℕ) : (st (F := Ideal) v0 X4 X5 (k + 1)).2.1
    = k0_pay11 (k0_pay1 v0) (ktAt X4 k) (st v0 X4 X5 k).1 (st v0 X4 X5 k).2.1 := rfl
theorem st_succ3 (k : ℕ) : (st (F := Ideal) v0 X4 X5 (k + 1)).2.2
    = k0_pay12 (k0_pay1 v0) (ktAt X4 k) (st v0 X4 X5 k).1 (vAt X5 k) (st v0 X4 X5 k).2.2 := rfl

theorem pay5_eq (x : FVec Ideal S1024x1 .f32) (r : Fin 1024) : k0_pay5 (F := Ideal) x (ix2 r 0) = x (ix2 r 0) := by
  pointwise [k0_pay5]

theorem pay11_eq (k : ℕ) (m l : Vec Ideal S1024x1 .f32) (r : Fin 1024) :
    k0_pay11 (F := Ideal) (k0_pay1 v0) (ktAt X4 k) m l (ix2 r 0)
      = Ideal.exp (m (ix2 r 0) - k0_pay8 (k0_pay1 v0) (ktAt X4 k) m (ix2 r 0)) * l (ix2 r 0)
        + ∑ x : Fin 512, Ideal.exp (score v0 X4 r ⟨(512 * k + x.val) % 8192, Nat.mod_lt _ (by decide)⟩
          - k0_pay8 (k0_pay1 v0) (ktAt X4 k) m (ix2 r 0)) := by
  pointwise [k0_pay11, k0_pay10, k0_pay9]
  simp only [pay7_eq]

theorem pay12_eq (k : ℕ) (m : Vec Ideal S1024x1 .f32) (a : Vec Ideal S1024x128 .f32) (r : Fin 1024) (d : Fin 128) :
    k0_pay12 (F := Ideal) (k0_pay1 v0) (ktAt X4 k) m (vAt X5 k) a (ix2 r d)
      = a (ix2 r d) * Ideal.exp (m (ix2 r 0) - k0_pay8 (k0_pay1 v0) (ktAt X4 k) m (ix2 r 0))
        + ∑ x : Fin 512, Ideal.exp (score v0 X4 r ⟨(512 * k + x.val) % 8192, Nat.mod_lt _ (by decide)⟩
          - k0_pay8 (k0_pay1 v0) (ktAt X4 k) m (ix2 r 0)) * X5 (ix4 0 0 ⟨(512 * k + x.val) % 8192, Nat.mod_lt _ (by decide)⟩ d) := by
  pointwise [k0_pay12, k0_pay10, k0_pay9, vAt]
  simp only [pay7_eq]

theorem pay6_eq (l : Vec Ideal S1024x1 .f32) (a : Vec Ideal S1024x128 .f32) (r : Fin 1024) (d : Fin 128) :
    k0_pay6 (F := Ideal) a l (ix3 0 r d) = Ideal.div (a (ix2 r d)) (l (ix2 r 0)) := by
  pointwise [k0_pay6]

theorem pay2_eq (r : Fin 1024) : k0_pay2 (F := Ideal) (ix2 r 0) = (⊥ : EReal) := by
  pointwise [k0_pay2]
  exact RowMax.ofBits_neg_inf

theorem pay3_eq (r : Fin 1024) : k0_pay3 (F := Ideal) (ix2 r 0) = (0 : EReal) := by
  pointwise [k0_pay3]

theorem pay4_eq (r : Fin 1024) (d : Fin 128) : k0_pay4 (F := Ideal) (ix2 r d) = (0 : EReal) := by
  pointwise [k0_pay4]

/-- Row `r`, column `d` of the output block. -/
theorem block_eq (r : Fin 1024) (d : Fin 128) (hs : ∀ j, ∃ x : ℝ, score v0 X4 r j = x) :
    k0_pay6 (F := Ideal) (st v0 X4 X5 16).2.2 (st v0 X4 X5 16).2.1 (ix3 0 r d)
      = attn (score v0 X4 r) (fun j => X5 (ix4 0 0 j d)) := by
  rw [pay6_eq]
  exact online_attn (n := 512) (by decide) (by decide) rfl (by decide) _ _ hs (fun k => (st (F := Ideal) v0 X4 X5 k).1 (ix2 r 0))
    (fun k => (st (F := Ideal) v0 X4 X5 k).2.1 (ix2 r 0)) (fun k => (st (F := Ideal) v0 X4 X5 k).2.2 (ix2 r d))
    (by rw [st_zero1, pay2_eq]) (by rw [st_zero2, pay3_eq]) (by rw [st_zero3, pay4_eq])
    (fun k => by rw [st_succ1, pay5_eq, pay8_eq]) (fun k => by rw [st_succ2, pay11_eq, st_succ1, pay5_eq])
    (fun k => by rw [st_succ3, pay12_eq, st_succ1, pay5_eq])
end

end Cert.KernelIdeal.Flash
end
-- ==== Proof.Result.lean ====
/-
  The kernel's result array after the run, over the extended reals: at batch `b`, query `t`, head `h`, column `d` the
  softmax-weighted sum of the values' column (`arr_eq`).
-/
module

public import proofs.«01_k».proof.Proof.FlashIdeal
public import Idealize.ShloMosaic.Lib.Pipeline.Covers

@[expose] public section

set_option maxRecDepth 16384

noncomputable section

namespace Cert.KernelIdeal.Result

open Cert.KernelIdeal Cert.KernelIdeal.Gen Idealize.ShloMosaic Idealize.ShloMosaic.TcCoe Idealize.SL.Sem Cert.Online

/-- The score of query `t` against key `j`, in head `h` of batch `b`. -/
def score (q : FVec Ideal S8x16x8192x128 .bf16) (kt : FVec Ideal S8x16x128x8192 .bf16) (b : Fin 8) (h : Fin 16) (t j : Fin 8192) :
    EReal := ∑ e : Fin 128, q (ix4 b h t e) * kt (ix4 b h e j)

/-- The attention. -/
def res (q : FVec Ideal S8x16x8192x128 .bf16) (kt : FVec Ideal S8x16x128x8192 .bf16) (v : FVec Ideal S8x16x8192x128 .bf16) :
    FVec Ideal S8x8192x2048 .bf16 := fun i =>
  attn (score q kt ⟨(i 0).val, (i 0).isLt⟩ ⟨(i 2).val / 128, Nat.div_lt_of_lt_mul (i 2).isLt⟩ ⟨(i 1).val, (i 1).isLt⟩)
    fun j => v (ix4 ⟨(i 0).val, (i 0).isLt⟩ ⟨(i 2).val / 128, Nat.div_lt_of_lt_mul (i 2).isLt⟩ j ⟨(i 2).val % 128, Nat.mod_lt _ (by decide)⟩)

theorem res_at (q : FVec Ideal S8x16x8192x128 .bf16) (kt : FVec Ideal S8x16x128x8192 .bf16) (v : FVec Ideal S8x16x8192x128 .bf16)
    (i : S8x8192x2048.Idx) (b : Fin 8) (h : Fin 16) (t : Fin 8192) (d : Fin 128) (h0 : (i 0).val = b.val) (h1 : (i 1).val = t.val)
    (h2 : (i 2).val = h.val * 128 + d.val) :
    res q kt v i = attn (score q kt b h t) fun j => v (ix4 b h j d) := by
  obtain rfl : b = ⟨(i 0).val, (i 0).isLt⟩ := Fin.ext h0.symm
  obtain rfl : t = ⟨(i 1).val, (i 1).isLt⟩ := Fin.ext h1.symm
  obtain rfl : h = ⟨(i 2).val / 128, Nat.div_lt_of_lt_mul (i 2).isLt⟩ := Fin.ext (by show h.val = (i 2).val / 128; omega)
  obtain rfl : d = ⟨(i 2).val % 128, Nat.mod_lt _ (by decide)⟩ := Fin.ext (by show d.val = (i 2).val % 128; omega)
  rfl

/-- The windows' block indices at a grid point. -/
theorem idx : ∀ t : Fin grid0.N,
    win0_0.index t = ![t.val / 128, t.val / 8 % 16, t.val % 8, 0]
    ∧ win0_1.index t = ![t.val / 128, t.val / 8 % 16, 0, 0]
    ∧ win0_2.index t = ![t.val / 128, t.val / 8 % 16, 0, 0]
    ∧ win0_3.index t = ![t.val / 128, t.val % 8, t.val / 8 % 16] := by
  decide +kernel

/-- Every block of the result is some grid point's. -/
theorem covers : (cfg0.win 3).Covers := by
  refine (cfg0.win 3).covers_of_indexMap_surj rfl (by decide) fun β => ?_
  have h0 : (β 0).val < 8 := lt_of_lt_of_eq (β 0).isLt (by decide)
  have h1 : (β 1).val < 8 := lt_of_lt_of_eq (β 1).isLt (by decide)
  have h2 : (β 2).val < 16 := lt_of_lt_of_eq (β 2).isLt (by decide)
  refine ⟨fun | 0 => ⟨(β 0).val, h0⟩ | 1 => ⟨(β 2).val, h2⟩ | 2 => ⟨(β 1).val, h1⟩, fun a => ?_⟩
  match a with
  | 0 => exact (BitVec.toNat_ofNat _ _).trans (Nat.mod_eq_of_lt (h0.trans (by decide)))
  | 1 => exact (BitVec.toNat_ofNat _ _).trans (Nat.mod_eq_of_lt (h1.trans (by decide)))
  | 2 => exact (BitVec.toNat_ofNat _ _).trans (Nat.mod_eq_of_lt (h2.trans (by decide)))

section
variable (m : (ℓ : Loc nD τ sig) → Buf (Elt Ideal) ℓ) (c : Dev nD) (t : Fin cfg0.N)

/-- The block of queries at a grid point. -/
theorem q_blk (r : Fin 1024) (e : Fin 128) : iblk m c 0 t (ix4 0 0 r e)
    = m ((c : Thread nD τ).loc main_arg0) (ix4 ⟨t.val / 128, by have := lt_of_lt_of_eq t.isLt N_0; omega⟩ ⟨t.val / 8 % 16, by omega⟩
        ⟨t.val % 8 * 1024 + r.val, by omega⟩ e) := by
  blk_ext [iblk, V, idx t]

theorem kt_blk (e : Fin 128) (j : Fin 8192) : iblk m c 1 t (ix4 0 0 e j)
    = m ((c : Thread nD τ).loc main_arg1) (ix4 ⟨t.val / 128, by have := lt_of_lt_of_eq t.isLt N_0; omega⟩ ⟨t.val / 8 % 16, by omega⟩ e j) := by
  blk_ext [iblk, V, idx t]

theorem v_blk (j : Fin 8192) (d : Fin 128) : iblk m c 2 t (ix4 0 0 j d)
    = m ((c : Thread nD τ).loc main_arg2) (ix4 ⟨t.val / 128, by have := lt_of_lt_of_eq t.isLt N_0; omega⟩ ⟨t.val / 8 % 16, by omega⟩ j d) := by
  blk_ext [iblk, V, idx t]

/-- What a grid point computes, at an index of its block. -/
theorem point (hs : ∀ b h t j, ∃ x : ℝ, score (m ((c : Thread nD τ).loc main_arg0)) (m ((c : Thread nD τ).loc main_arg1)) b h t j = x)
    (r : Fin 1024) (d : Fin 128) :
    k0_pay6 (F := Ideal) (Flash.st (F := Ideal) (iblk m c 0 t) (iblk m c 1 t) (iblk m c 2 t) 16).2.2
        (Flash.st (F := Ideal) (iblk m c 0 t) (iblk m c 1 t) (iblk m c 2 t) 16).2.1 (ix3 0 r d)
      = attn (score (m ((c : Thread nD τ).loc main_arg0)) (m ((c : Thread nD τ).loc main_arg1))
          ⟨t.val / 128, by have := lt_of_lt_of_eq t.isLt N_0; omega⟩ ⟨t.val / 8 % 16, by omega⟩ ⟨t.val % 8 * 1024 + r.val, by omega⟩)
        fun j => m ((c : Thread nD τ).loc main_arg2) (ix4 ⟨t.val / 128, by have := lt_of_lt_of_eq t.isLt N_0; omega⟩ ⟨t.val / 8 % 16, by omega⟩ j d) := by
  have hsc : Flash.score (iblk m c 0 t) (iblk m c 1 t) r = score (m ((c : Thread nD τ).loc main_arg0)) (m ((c : Thread nD τ).loc main_arg1))
      ⟨t.val / 128, by have := lt_of_lt_of_eq t.isLt N_0; omega⟩ ⟨t.val / 8 % 16, by omega⟩ ⟨t.val % 8 * 1024 + r.val, by omega⟩ := by
    funext j
    exact Finset.sum_congr rfl fun e _ => congrArg₂ (· * ·) (q_blk m c t r e) (kt_blk m c t e j)
  rw [Flash.block_eq _ _ _ r d (fun j => by rw [hsc]; exact hs _ _ _ j), hsc]
  exact congrArg _ (funext fun j => v_blk m c t j d)

end

theorem arr_eq (m : (ℓ : Loc nD τ sig) → Buf (Elt Ideal) ℓ) (c : Dev nD)
    (hs : ∀ b h t j, ∃ x : ℝ, score (m ((c : Thread nD τ).loc main_arg0)) (m ((c : Thread nD τ).loc main_arg1)) b h t j = x) :
    (dats m 0 c).arrAt 3 cfg0.N = res (m ((c : Thread nD τ).loc main_arg0)) (m ((c : Thread nD τ).loc main_arg1))
      (m ((c : Thread nD τ).loc main_arg2)) := by
  refine (dats m 0 c).arrAt_eq_of_covers 3 _ covers fun t hf y => ?_
  blk_simp
  rw [after0_3]
  unfold outsAt0
  rw [Flash.out_eq]
  obtain ⟨r, d, rfl⟩ : ∃ (r : Fin 1024) (d : Fin 128), y = (ix3 (0 : Fin 1) r d : S1x1024x128.Idx) :=
    ⟨⟨(y 1).val, (y 1).isLt⟩, ⟨(y 2).val, (y 2).isLt⟩, by blk_ext⟩
  refine (point m c t hs r d).trans (res_at _ _ _ _ _ _ _ _ ?_ ?_ ?_).symm
  · blk_simp [idx t]
    exact Nat.add_zero _
  · blk_simp [idx t]
  · blk_simp [idx t]

end Cert.KernelIdeal.Result

end
-- ==== Proof.Softmax.lean ====
/-
  The reference over the extended reals: its result at batch `b`, query `t`, head `h`, column `d` is the softmax-weighted sum
  of the values' column (`result_eq`).
-/
module

public import proofs.«01_k».proof.Proof.Gen.ReferenceIdeal.Run
public import proofs.«01_k».proof.Proof.Online
public import proofs.«01_k».proof.Proof.RowMax
public import Idealize.ShloMosaic.Lib.Pointwise

@[expose] public section

set_option maxRecDepth 16384

noncomputable section

namespace Cert.ReferenceIdeal.Softmax

open Cert.ReferenceIdeal Cert.ReferenceIdeal.Gen Idealize.ShloMosaic Idealize.ShloMosaic.TcCoe Idealize.SL.Sem Cert.Online
open Cert.ReferenceIdeal.Facts

variable (q : FVec Ideal S8x16x8192x128 .bf16) (kt : FVec Ideal S8x16x128x8192 .bf16) (v : FVec Ideal S8x16x8192x128 .bf16)

/-- The scores. -/
def scores : FVec Ideal S8x16x1x8192x8192 .f32 :=
  transpose S8x16x1x8192x8192 [0, 1, 4, 3, 2] (Host.dotGeneral dot_S8x8192x16x128_S8x8192x16x1x128_S8x16x8192x8192x1_3_4_1_13_02_02 none
    (transpose S8x8192x16x128 [0, 3, 1, 2] (extf .f32 kt bitsLt_bf16_f32) transposes_S8x16x128x8192_S8x8192x16x128_0_3_1_2)
    (shapeCast S8x8192x16x1x128 (transpose S8x8192x16x128 [0, 2, 1, 3] (extf .f32 q bitsLt_bf16_f32)
      transposes_S8x16x8192x128_S8x8192x16x128_0_2_1_3) shapeCasts_S8x8192x16x128_S8x8192x16x1x128)
    : FVec Ideal S8x16x8192x8192x1 .f32) transposes_S8x16x8192x8192x1_S8x16x1x8192x8192_0_1_4_3_2

theorem scores_eq (b : Fin 8) (h : Fin 16) (t j : Fin 8192) : scores q kt (ix5 b h 0 t j)
    = ∑ e : Fin 128, q (ix4 b h t e) * kt (ix4 b h e j) := by
  pointwise [scores]
  exact Finset.sum_congr rfl fun e _ => mul_comm _ _

/-- The greatest score of a query. -/
def rowMax (s : FVec Ideal S8x16x1x8192x8192 .f32) : FVec Ideal S8x16x1x8192 .f32 :=
  maximumf (broadcastInDim S8x16x1x8192 ![] bcast_S_S8x16x1x8192 (constant S_ .f32 0xFF800000#32))
    (Host.reduce FloatOps.maximumf s (constant S_ .f32 0xFF800000#32) reducesTo_S8x16x1x8192x8192_S8x16x1x8192_d4 h_S_)

theorem rowMax_eq (s : FVec Ideal S8x16x1x8192x8192 .f32) (b : Fin 8) (h : Fin 16) (t : Fin 8192) : rowMax s (ix4 b h 0 t)
    = (Finset.univ : Finset (Fin 8192)).fold max ⊥ fun j => s (ix5 b h 0 t j) := by
  unfold rowMax
  rw [RowMax.maximumf_at, RowMax.neg_inf_at, max_eq_right bot_le]
  refine (RowMax.host5 _ _ _ _ b h 0 t).trans ?_
  rw [RowMax.neg_inf_const]

/-- The exponentials of the scores less their greatest. -/
def exps (s : FVec Ideal S8x16x1x8192x8192 .f32) : FVec Ideal S8x16x1x8192x8192 .f32 :=
  Host.exp (subf s (broadcastInDim S8x16x1x8192x8192 ![0, 1, 2, 3, 4] bcast_S8x16x1x8192x1_S8x16x1x8192x8192_0_1_2_3_4
    (broadcastInDim S8x16x1x8192x1 ![0, 1, 2, 3] bcast_S8x16x1x8192_S8x16x1x8192x1_0_1_2_3 (rowMax s))))

theorem exps_eq (s : FVec Ideal S8x16x1x8192x8192 .f32) (b : Fin 8) (h : Fin 16) (t j : Fin 8192) : exps s (ix5 b h 0 t j)
    = Ideal.exp (s (ix5 b h 0 t j) - rowMax s (ix4 b h 0 t)) := by
  pointwise [exps]

/-- The exponentials over their sum, times the values. -/
def outs (p : FVec Ideal S8x16x1x8192x8192 .f32) : FVec Ideal S8x8192x2048 .bf16 :=
  truncf .bf16 (shapeCast S8x8192x2048 (transpose S8x8192x16x1x128 [0, 4, 1, 3, 2]
    (Host.dotGeneral dot_S8x8192x16x128_S8x16x1x8192x8192_S8x16x128x1x8192_1_4_3_23_02_01 none
      (transpose S8x8192x16x128 [0, 2, 1, 3] (extf .f32 v bitsLt_bf16_f32) transposes_S8x16x8192x128_S8x8192x16x128_0_2_1_3)
      (Host.divf p (broadcastInDim S8x16x1x8192x8192 ![0, 1, 2, 3, 4] bcast_S8x16x1x8192x1_S8x16x1x8192x8192_0_1_2_3_4
        (broadcastInDim S8x16x1x8192x1 ![0, 1, 2, 3] bcast_S8x16x1x8192_S8x16x1x8192x1_0_1_2_3
          (Host.reduceAdd p (constant S_ .f32 0x00000000#32) reducesTo_S8x16x1x8192x8192_S8x16x1x8192_d4 h_S_))))
      : FVec Ideal S8x16x128x1x8192 .f32)
    transposes_S8x16x128x1x8192_S8x8192x16x1x128_0_4_1_3_2) shapeCasts_S8x8192x16x1x128_S8x8192x2048) bitsLt_bf16_f32

theorem outs_eq (p : FVec Ideal S8x16x1x8192x8192 .f32) (b : Fin 8) (t : Fin 8192) (l : Fin 2048) : outs v p (ix3 b t l)
    = ∑ j : Fin 8192, Ideal.div (p (ix5 b ⟨l.val / 128, by omega⟩ 0 t j)) (∑ j' : Fin 8192, p (ix5 b ⟨l.val / 128, by omega⟩ 0 t j'))
      * v (ix4 b ⟨l.val / 128, by omega⟩ j ⟨l.val % 128, by omega⟩) := by
  pointwise [outs]
  exact Finset.sum_congr rfl fun e _ => mul_comm _ _

/-- The result, at batch `b`, query `t`, lane `l`: head `l / 128`, column `l % 128`. -/
theorem result_eq (b : Fin 8) (t : Fin 8192) (l : Fin 2048) : outs v (exps (scores q kt)) (ix3 b t l)
    = attn (fun j : Fin 8192 => ∑ e : Fin 128, q (ix4 b ⟨l.val / 128, by omega⟩ t e) * kt (ix4 b ⟨l.val / 128, by omega⟩ e j))
        fun j => v (ix4 b ⟨l.val / 128, by omega⟩ j ⟨l.val % 128, by omega⟩) := by
  rw [outs_eq]
  simp only [exps_eq, rowMax_eq, scores_eq]
  rfl

/-- The reference's run, its result named. -/
theorem run_outs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = outs (m ((c.tc : Thread nD τ).loc main_arg2))
        (exps (scores (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.ReferenceIdeal.Softmax

end
-- ==== Proof.Finite.lean ====
/-
  What the precondition `finite` says over the extended reals: every query and every key is a real number.
-/
module

public import proofs.«01_k».proof.Pre_finite
public import proofs.«01_k».proof.Proof.Online
public import Idealize.ShloMosaic.Lib.Pointwise

@[expose] public section

noncomputable section

namespace Cert.Finite

open Idealize.ShloMosaic

/-- The pattern of infinity denotes `⊤`. -/
theorem ofBits_inf : Ideal.ofBits FTy.f32 0x7F800000#32 = (⊤ : EReal) := by
  simp [Ideal.ofBits, Ideal.ieee]

/-- An extended real whose magnitude is less than infinity is a real. -/
theorem real_of_abs_lt (x : EReal) (h : max x (-x) < ⊤) : ∃ r : ℝ, x = r := by
  induction x with
  | bot => simp at h
  | top => simp at h
  | coe r => exact ⟨r, rfl⟩

/-- A bit that is one says that its proposition holds. -/
theorem of_bit {p : Prop} [Decidable p] (h : BitVec.ofBool (decide p) = 1#1) : p := by
  by_contra hn
  rw [decide_eq_false hn] at h
  exact absurd h (by decide)

/-- The comparison the precondition makes, true, makes the number a real. -/
theorem real_of_bit (x : Ideal .f32)
    (h : BitVec.ofBool (decide (FloatOps.absf x < Ideal.ofBits FTy.f32 0x7F800000#32)) = 1#1) : ∃ r : ℝ, x = (r : EReal) := by
  refine real_of_abs_lt x ?_
  rw [ofBits_inf] at h
  exact of_bit h

end Cert.Finite

namespace Cert.Pre_finite

open Idealize.ShloMosaic Cert.Finite

theorem facts : Facts := ⟨by decide, by decide, by decide⟩

attribute [instance] facts

theorem q_real (q : FVec Ideal S8x16x8192x128 .bf16) (kt : FVec Ideal S8x16x128x8192 .bf16) (v : FVec Ideal S8x16x8192x128 .bf16)
    (h : (fn q kt v).1 = fun _ => 1#1) (i : S8x16x8192x128.Idx) : ∃ r : ℝ, q i = r := by
  have hi := congrFun h i
  idx_vars i
  pointwise [fn] at hi
  exact real_of_bit _ hi

theorem kt_real (q : FVec Ideal S8x16x8192x128 .bf16) (kt : FVec Ideal S8x16x128x8192 .bf16) (v : FVec Ideal S8x16x8192x128 .bf16)
    (h : (fn q kt v).2 = fun _ => 1#1) (i : S8x16x128x8192.Idx) : ∃ r : ℝ, kt i = r := by
  have hi := congrFun h i
  idx_vars i
  pointwise [fn] at hi
  exact real_of_bit _ hi

end Cert.Pre_finite

end
-- ==== Proof.Attention.lean ====
/-
  The claims about the attention: the frames of the three programs, and the value claim.
-/
module

public import proofs.«01_k».proof.Defs
public import proofs.«01_k».proof.Proof.Gen.Kernel.Frame
public import proofs.«01_k».proof.Proof.Gen.KernelIdeal.Value
public import proofs.«01_k».proof.Proof.Result
public import proofs.«01_k».proof.Proof.Softmax
public import proofs.«01_k».proof.Proof.Finite

@[expose] public section

set_option maxRecDepth 16384

noncomputable section

namespace Cert.Attention

open Idealize.ShloMosaic Idealize.ShloMosaic.TcCoe Idealize.SL.Sem

attribute [local instance] Cert.Kernel.Gen.facts Cert.KernelIdeal.Gen.facts Cert.ReferenceIdeal.Gen.facts

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

/-- The reference's frame, off its generated run; it declares no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_ri_finite : Cert.quiescent_ReferenceIdeal_pre_finite := fun m ρ _ => frame_ri m ρ trivial

/-- From finite queries and keys the kernel and the reference leave the same array. -/
theorem algebraic : Cert.algebraic_KernelIdeal_ReferenceIdeal_pre_finite := by
  intro m ρ m' ρ' hpre hagree
  refine ⟨fun c => Cert.KernelIdeal.Result.res (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.KernelIdeal.Value.run_blocks (F := Ideal) m ρ)
    refine Cert.KernelIdeal.Result.arr_eq m c fun b h t j => Cert.Online.dot_real _ _ _ (fun e => ?_) fun e => ?_
    · exact Cert.Pre_finite.q_real _ _ _ (hpre c).1 _
    · exact Cert.Pre_finite.kt_real _ _ _ (hpre c).2 _
  · refine (θ_run Cert.ReferenceIdeal.defs _ _).mono (fun r h c => ⟨(h c).1.trans ?_, (h c).2⟩) (Cert.ReferenceIdeal.Softmax.run_outs m' ρ')
    rw [(hagree c).1, (hagree c).2.1, (hagree c).2.2]
    funext i
    idx_vars i
    exact Cert.ReferenceIdeal.Softmax.result_eq _ _ _ _ _ _

end Cert.Attention

end
-- ==== Proof.Flash2.lean ====
/-
  What one grid point of the kernel leaves in its output block. The kernel walks the keys in 16 trips of 512 and keeps,
  per query row, a running maximum, a running sum and a running accumulator in three scratch buffers. `st` is that
  state after `k` trips, as the payloads of the skeleton compute it; `loop_state` says that the scratch buffers hold it,
  and `out_eq` that the output block is the last payload of the state after 16 trips.
-/
module

public import proofs.«01_k».proof.Proof.Gen.Kernel2Ideal.Value
public import Idealize.ShloMosaic.Lib.Pipeline.ValueKit
public import Idealize.ShloMosaic.Lib.Pointwise
public import Idealize.ShloMosaic.Lib.VecWindow

@[expose] public section

set_option maxRecDepth 16384

noncomputable section

namespace Cert.Kernel2Ideal.Flash

open Cert.Kernel2Ideal Cert.Kernel2Ideal.Gen Idealize.ShloMosaic Idealize.ShloMosaic.TcCoe Idealize.SL.Sem

variable {F : FTy → Type} [FloatOps F]

/-- The 512 keys of trip `k`. -/
def ktAt (X : Vec F S1x1x128x8192 .bf16) (k : ℕ) : Vec F S1x1x128x512 .bf16 :=
  fun y => X (ix4 (y 0) (y 1) (y 2) ⟨(512 * k + (y 3).val) % 8192, Nat.mod_lt _ (by decide)⟩)

/-- The 512 values of trip `k`. -/
def vAt (X : Vec F S1x1x8192x128 .bf16) (k : ℕ) : Vec F S1x1x512x128 .bf16 :=
  fun y => X (ix4 (y 0) (y 1) ⟨(512 * k + (y 2).val) % 8192, Nat.mod_lt _ (by decide)⟩ (y 3))

/-- Running maximum, running sum and running accumulator after `k` trips. -/
def st (v0 : Vec F S1x4x256x128 .bf16) (X4 : Vec F S1x1x128x8192 .bf16) (X5 : Vec F S1x1x8192x128 .bf16) :
    ℕ → FVec F S1024x1 .f32 × FVec F S1024x1 .f32 × FVec F S1024x128 .f32
  | 0 => (k0_pay11, k0_pay12, k0_pay13)
  | k + 1 =>
    (k0_pay14 (k0_pay5 (k0_pay10 v0) (ktAt X4 k) (st v0 X4 X5 k).1),
      k0_pay8 (k0_pay10 v0) (ktAt X4 k) (st v0 X4 X5 k).1 (st v0 X4 X5 k).2.1,
      k0_pay9 (k0_pay10 v0) (ktAt X4 k) (st v0 X4 X5 k).1 (vAt X5 k) (st v0 X4 X5 k).2.2)

/-- The output block's four column groups, from the 1024 rows of the quotient. -/
def blk (o : FVec F S1024x128 .f32) : FVec F S1x256x512 .bf16 := fun y =>
  truncf .bf16 o bitsLt_bf16_f32 (ix2 ⟨(y 2).val / 128 * 256 + (y 1).val, by
    have h1 : (y 1).val < 256 := (y 1).isLt
    have h2 : (y 2).val < 512 := (y 2).isLt
    omega⟩ ⟨(y 2).val % 128, Nat.mod_lt _ (by decide)⟩)

theorem blk_at (o : FVec F S1024x128 .f32) (y : S1x256x512.Idx) (R : Fin 1024) (d : Fin 128)
    (hR : (y 2).val / 128 * 256 + (y 1).val = R.val) (hd : (y 2).val % 128 = d.val) :
    blk o y = truncf .bf16 o bitsLt_bf16_f32 (ix2 R d) := by
  obtain ⟨R, _⟩ := R
  obtain ⟨d, _⟩ := d
  subst hR hd
  rfl

/-- The four stores tile the block. -/
theorem canon_blk (a : FVec F S1024x128 .f32) (l : FVec F S1024x1 .f32) :
    View.canon (Val := Elt F) (s := S1x256x512) (e := .bf16)
      [⟨Rect.unit (s := S1x256x512) ![0, 0, 384] S1x256x128.size inb_S1x256x512_S1x256x128_0_0_384, k0_pay3 (k0_pay15 a l)⟩,
        ⟨Rect.unit (s := S1x256x512) ![0, 0, 256] S1x256x128.size inb_S1x256x512_S1x256x128_0_0_256, k0_pay2 (k0_pay15 a l)⟩,
        ⟨Rect.unit (s := S1x256x512) ![0, 0, 128] S1x256x128.size inb_S1x256x512_S1x256x128_0_0_128, k0_pay1 (k0_pay17 a l)⟩,
        ⟨Rect.unit (s := S1x256x512) ![0, 0, 0] S1x256x128.size inb_S1x256x512_S1x256x128_0_0_0, k0_pay16 a l⟩]
      = blk (k0_pay15 a l) := by
  funext y
  canon_tiles x h
  · rw [blk_at _ y ⟨768 + (x 1).val, by omega⟩ ⟨(x 2).val, x2_lt⟩ (by simp only; omega) (by simp only; omega)]
    obtain ⟨r, d, rfl⟩ : ∃ (r : Fin 256) (d : Fin 128), x = (ix3 (0 : Fin 1) r d : S1x256x128.Idx) :=
      ⟨⟨(x 1).val, x1_lt⟩, ⟨(x 2).val, x2_lt⟩, by blk_ext⟩
    pointwise [k0_pay1, k0_pay2, k0_pay3, k0_pay16, k0_pay17]
  · rw [blk_at _ y ⟨512 + (x 1).val, by omega⟩ ⟨(x 2).val, x2_lt⟩ (by simp only; omega) (by simp only; omega)]
    obtain ⟨r, d, rfl⟩ : ∃ (r : Fin 256) (d : Fin 128), x = (ix3 (0 : Fin 1) r d : S1x256x128.Idx) :=
      ⟨⟨(x 1).val, x1_lt⟩, ⟨(x 2).val, x2_lt⟩, by blk_ext⟩
    pointwise [k0_pay1, k0_pay2, k0_pay3, k0_pay16, k0_pay17]
  · rw [blk_at _ y ⟨256 + (x 1).val, by omega⟩ ⟨(x 2).val, x2_lt⟩ (by simp only; omega) (by simp only; omega)]
    obtain ⟨r, d, rfl⟩ : ∃ (r : Fin 256) (d : Fin 128), x = (ix3 (0 : Fin 1) r d : S1x256x128.Idx) :=
      ⟨⟨(x 1).val, x1_lt⟩, ⟨(x 2).val, x2_lt⟩, by blk_ext⟩
    pointwise [k0_pay1, k0_pay2, k0_pay3, k0_pay16, k0_pay17]
  · rw [blk_at _ y ⟨0 + (x 1).val, by omega⟩ ⟨(x 2).val, x2_lt⟩ (by simp only; omega) (by simp only; omega)]
    obtain ⟨r, d, rfl⟩ : ∃ (r : Fin 256) (d : Fin 128), x = (ix3 (0 : Fin 1) r d : S1x256x128.Idx) :=
      ⟨⟨(x 1).val, x1_lt⟩, ⟨(x 2).val, x2_lt⟩, by blk_ext⟩
    pointwise [k0_pay1, k0_pay2, k0_pay3, k0_pay16, k0_pay17]

/-- The trip's load of keys starts at `512 k`. -/
theorem off1_eq : ∀ k : Fin k0_t1_loop.trips, k0_off1 k = ![0, 0, 0, 512 * k.val] := by decide +kernel

/-- The trip's load of values starts at `512 k`. -/
theorem off2_eq : ∀ k : Fin k0_t1_loop.trips, k0_off2 k = ![0, 0, 512 * k.val, 0] := by decide +kernel

theorem trips_eq : k0_t1_loop.trips = 16 := by decide +kernel

theorem ld_kt (X : Vec F S1x1x128x8192 .bf16) (k : Fin k0_t1_loop.trips) (h : ∀ a, k0_off1 k a + S1x1x128x512.size a ≤ S1x1x128x8192.size a) :
    View.ld X (Rect.unit (s := S1x1x128x8192) (k0_off1 k) S1x1x128x512.size h) = ktAt X k.val := by
  have hk : k.val < 16 := lt_of_lt_of_eq k.isLt trips_eq
  have e1 := off1_eq k
  funext y
  show X _ = X _
  congr 1
  funext j
  apply Fin.ext
  have b0 := (y 0).isLt
  have b1 := (y 1).isLt
  have b2 := (y 2).isLt
  have b3 := (y 3).isLt
  match j with
  | ⟨0, _⟩ => exact (Rect.idx_unit_val ..).trans (by simp [e1, ix4])
  | ⟨1, _⟩ => exact (Rect.idx_unit_val ..).trans (by simp [e1, ix4])
  | ⟨2, _⟩ => exact (Rect.idx_unit_val ..).trans (by simp [e1, ix4] at b2 ⊢; try omega)
  | ⟨3, _⟩ => exact (Rect.idx_unit_val ..).trans (by simp [e1, ix4] at b3 ⊢; try omega)

theorem ld_v (X : Vec F S1x1x8192x128 .bf16) (k : Fin k0_t1_loop.trips) (h : ∀ a, k0_off2 k a + S1x1x512x128.size a ≤ S1x1x8192x128.size a) :
    View.ld X (Rect.unit (s := S1x1x8192x128) (k0_off2 k) S1x1x512x128.size h) = vAt X k.val := by
  have hk : k.val < 16 := lt_of_lt_of_eq k.isLt trips_eq
  have e1 := off2_eq k
  funext y
  show X _ = X _
  congr 1
  funext j
  apply Fin.ext
  have b0 := (y 0).isLt
  have b1 := (y 1).isLt
  have b2 := (y 2).isLt
  have b3 := (y 3).isLt
  match j with
  | ⟨0, _⟩ => exact (Rect.idx_unit_val ..).trans (by simp [e1, ix4])
  | ⟨1, _⟩ => exact (Rect.idx_unit_val ..).trans (by simp [e1, ix4])
  | ⟨2, _⟩ => exact (Rect.idx_unit_val ..).trans (by simp [e1, ix4] at b2 ⊢; try omega)
  | ⟨3, _⟩ => exact (Rect.idx_unit_val ..).trans (by simp [e1, ix4] at b3 ⊢; try omega)

section
variable (𝒱 : Variants) (c : Dev nD) (bd : Option 𝒱.V) (i : grid0.Coords) (arg3 : Memref sig .tc .vmem S1x4x256x128 .bf16) (harg3 : arg3.IsWhole) (arg4 : Memref sig .tc .vmem S1x1x128x8192 .bf16) (harg4 : arg4.IsWhole) (arg5 : Memref sig .tc .vmem S1x1x8192x128 .bf16) (harg5 : arg5.IsWhole) (arg6 : Memref sig .tc .vmem S1x256x512 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (v0 : Vec F S1x4x256x128 .bf16) (X_arg4 : BufTy.Contents (Elt F) arg4.view.ty) (X_arg5 : BufTy.Contents (Elt F) arg5.view.ty)

theorem tripL_eq (k : Fin k0_t1_loop.trips) (f7 : BufTy.Contents (Elt F) arg7.view.ty) (f8 : BufTy.Contents (Elt F) arg8.view.ty) (f9 : BufTy.Contents (Elt F) arg9.view.ty) :
    tripL_k0_t1 (F := F) 𝒱 c bd i arg3 harg3 arg4 harg4 arg5 harg5 arg6 harg6 arg7 harg7 arg8 harg8 arg9 harg9 v0 X_arg4 X_arg5 k f7 f8 f9 =
      ([⟨Rect.unit (s := S1024x1) ![0, 0] S1024x1.size inb_S1024x1_S1024x1_0_0, k0_pay14 (k0_pay5 (k0_pay10 v0)
          (View.readAt (Elt F) arg4.view (Rect.unit (s := S1x1x128x8192) (k0_off1 k) S1x1x128x512.size (k0_off1_inb k)).toLoadRect X_arg4)
          (View.readAt (Elt F) arg7.view (Rect.unit (s := S1024x1) ![0, 0] S1024x1.size inb_S1024x1_S1024x1_0_0).toLoadRect f7))⟩],
        [⟨Rect.unit (s := S1024x1) ![0, 0] S1024x1.size inb_S1024x1_S1024x1_0_0, k0_pay8 (k0_pay10 v0)
          (View.readAt (Elt F) arg4.view (Rect.unit (s := S1x1x128x8192) (k0_off1 k) S1x1x128x512.size (k0_off1_inb k)).toLoadRect X_arg4)
          (View.readAt (Elt F) arg7.view (Rect.unit (s := S1024x1) ![0, 0] S1024x1.size inb_S1024x1_S1024x1_0_0).toLoadRect f7)
          (View.readAt (Elt F) arg8.view (Rect.unit (s := S1024x1) ![0, 0] S1024x1.size inb_S1024x1_S1024x1_0_0).toLoadRect f8)⟩],
        [⟨Rect.unit (s := S1024x128) ![0, 0] S1024x128.size inb_S1024x128_S1024x128_0_0, k0_pay9 (k0_pay10 v0)
          (View.readAt (Elt F) arg4.view (Rect.unit (s := S1x1x128x8192) (k0_off1 k) S1x1x128x512.size (k0_off1_inb k)).toLoadRect X_arg4)
          (View.readAt (Elt F) arg7.view (Rect.unit (s := S1024x1) ![0, 0] S1024x1.size inb_S1024x1_S1024x1_0_0).toLoadRect f7)
          (View.readAt (Elt F) arg5.view (Rect.unit (s := S1x1x8192x128) (k0_off2 k) S1x1x512x128.size (k0_off2_inb k)).toLoadRect X_arg5)
          (View.readAt (Elt F) arg9.view (Rect.unit (s := S1024x128) ![0, 0] S1024x128.size inb_S1024x128_S1024x128_0_0).toLoadRect f9)⟩]) := by
  unfold tripL_k0_t1 trip_k0_t1
  dsimp only
  sl_unfold_words
  rfl

theorem loop_state (x4 : Vec F S1x1x128x8192 .bf16) (x5 : Vec F S1x1x8192x128 .bf16)
    (h4 : View.read (Elt F) arg4.view X_arg4 = x4) (h5 : View.read (Elt F) arg5.view X_arg5 = x5)
    (G7 : BufTy.Contents (Elt F) arg7.view.ty) (G8 : BufTy.Contents (Elt F) arg8.view.ty) (G9 : BufTy.Contents (Elt F) arg9.view.ty)
    (h7 : View.read (Elt F) arg7.view G7 = k0_pay11) (h8 : View.read (Elt F) arg8.view G8 = k0_pay12)
    (h9 : View.read (Elt F) arg9.view G9 = k0_pay13) : ∀ k : ℕ, k ≤ k0_t1_loop.trips →
    View.read (Elt F) arg7.view (arg7.view.writes (Elt F) G7 (pb_k0_t1 (F := F) 𝒱 c bd i arg3 harg3 arg4 harg4 arg5 harg5 arg6 harg6 arg7 harg7 arg8 harg8 arg9 harg9 v0 X_arg4 X_arg5 G7 G8 G9 k).1) = (st v0 x4 x5 k).1
    ∧ View.read (Elt F) arg8.view (arg8.view.writes (Elt F) G8 (pb_k0_t1 (F := F) 𝒱 c bd i arg3 harg3 arg4 harg4 arg5 harg5 arg6 harg6 arg7 harg7 arg8 harg8 arg9 harg9 v0 X_arg4 X_arg5 G7 G8 G9 k).2.1) = (st v0 x4 x5 k).2.1
    ∧ View.read (Elt F) arg9.view (arg9.view.writes (Elt F) G9 (pb_k0_t1 (F := F) 𝒱 c bd i arg3 harg3 arg4 harg4 arg5 harg5 arg6 harg6 arg7 harg7 arg8 harg8 arg9 harg9 v0 X_arg4 X_arg5 G7 G8 G9 k).2.2) = (st v0 x4 x5 k).2.2
  | 0, _ => ⟨h7, h8, h9⟩
  | k + 1, hk => by
    obtain ⟨i7, i8, i9⟩ := loop_state x4 x5 h4 h5 G7 G8 G9 h7 h8 h9 k (Nat.le_of_succ_le hk)
    have e := pb_k0_t1_succ (F := F) 𝒱 c bd i arg3 harg3 arg4 harg4 arg5 harg5 arg6 harg6 arg7 harg7 arg8 harg8 arg9 harg9 v0 X_arg4 X_arg5 G7 G8 G9 ⟨k, hk⟩
    rw [tripL_eq] at e
    dsimp only at e
    rw [e]
    refine ⟨(View.read_writes_full _ _ _ _ _).trans ?_, (View.read_writes_full _ _ _ _ _).trans ?_, (View.read_writes_full _ _ _ _ _).trans ?_⟩
    all_goals
      rw [View.readAt_full, View.readAt_eq_ld, ld_kt, h4, i7]
    · rfl
    · rw [View.readAt_full, i8]; rfl
    · rw [View.readAt_full, View.readAt_eq_ld, ld_v, h5, i9]; rfl
end

/-- The output block of a grid point, at row `r` and lane `l`: the quotient's row of head `l / 128` of the group, after 16 trips. -/
theorem out_eq (c : Dev nD) (i : grid0.Coords) (m0 : Memref sig .tc .vmem S1x4x256x128 .bf16) (h0 : m0.IsWhole)
    (m1 : Memref sig .tc .vmem S1x1x128x8192 .bf16) (h1 : m1.IsWhole) (m2 : Memref sig .tc .vmem S1x1x8192x128 .bf16)
    (h2 : m2.IsWhole) (m3 : Memref sig .tc .vmem S1x256x512 .bf16) (h3 : m3.IsWhole)
    (x0 : Vec F S1x4x256x128 .bf16) (x1 : Vec F S1x1x128x8192 .bf16) (x2 : Vec F S1x1x8192x128 .bf16) :
    out0_A_3 (F := F) c i m0 h0 m1 h1 m2 h2 m3 h3 scM0_0 (Memref.isWhole_whole _) scM0_1 (Memref.isWhole_whole _)
      scM0_2 (Memref.isWhole_whole _) x0 x1 x2 = blk (k0_pay15 (st x0 x1 x2 16).2.2 (st x0 x1 x2 16).2.1) := by
  have key := loop_state (F := F) Variants.none c none i m0 h0 m1 h1 m2 h2 m3 h3 scM0_0 (Memref.isWhole_whole _) scM0_1
    (Memref.isWhole_whole _) scM0_2 (Memref.isWhole_whole _) x0 (h1.unread x1) (h2.unread x2) x1 x2
    (h1.read_unread x1) (h2.read_unread x2)
    (scM0_0.view.writes (Elt F) scM0_0.view.junk [⟨Rect.unit (s := S1024x1) ![0, 0] S1024x1.size inb_S1024x1_S1024x1_0_0, k0_pay11⟩])
    (scM0_1.view.writes (Elt F) scM0_1.view.junk [⟨Rect.unit (s := S1024x1) ![0, 0] S1024x1.size inb_S1024x1_S1024x1_0_0, k0_pay12⟩])
    (scM0_2.view.writes (Elt F) scM0_2.view.junk [⟨Rect.unit (s := S1024x128) ![0, 0] S1024x128.size inb_S1024x128_S1024x128_0_0, k0_pay13⟩])
    (View.read_writes_full _ _ _ _ _) (View.read_writes_full _ _ _ _ _) (View.read_writes_full _ _ _ _ _) k0_t1_loop.trips le_rfl
  frame_out
  rw [trips_eq] at key
  refine (canon_blk _ _).trans (congrArg blk (congrArg₂ (k0_pay15 (F := F)) ?_ ?_))
  · refine (View.readAt_full _ _ _).trans ?_
    rw [View.writes_append]
    exact key.2.2
  · refine (View.readAt_full _ _ _).trans ?_
    rw [View.writes_append]
    exact key.2.1

end Cert.Kernel2Ideal.Flash
end
-- ==== Proof.FlashIdeal2.lean ====
/-
  The kernel's output block over the extended reals: row `r`, column `d` of it is the softmax-weighted sum of column `d` of
  the block's values, at the scores of query `r` against the block's keys (`block_eq`). The scores are assumed real.
-/
module

public import proofs.«01_k».proof.Proof.Flash2
public import proofs.«01_k».proof.Proof.Online
public import proofs.«01_k».proof.Proof.RowMax

@[expose] public section

set_option maxRecDepth 16384

noncomputable section

namespace Cert.Kernel2Ideal.Flash

open Cert.Kernel2Ideal Cert.Kernel2Ideal.Gen Idealize.ShloMosaic Idealize.ShloMosaic.TcCoe Idealize.SL.Sem Cert.Online

/-- A vector as a column, at an index. -/
theorem col_apply (x : FVec Ideal S1024 .f32) (h : S1024.ShapeCasts S1024x1) (r : Fin 1024) :
    shapeCast S1024x1 x h (ix2 r 0) = x (ix1 r) := by
  pointwise

section
variable (v0 : Vec Ideal S1x4x256x128 .bf16) (X4 : Vec Ideal S1x1x128x8192 .bf16) (X5 : Vec Ideal S1x1x8192x128 .bf16)

/-- The score of query `r` against key `j`. -/
def score (r : Fin 1024) (j : Fin 8192) : EReal := ∑ e : Fin 128, v0 (ix4 0 ⟨r.val / 256, by omega⟩ ⟨r.val % 256, by omega⟩ e) * X4 (ix4 0 0 e j)

theorem pay4_eq (k : ℕ) (r : Fin 1024) (x : Fin 512) : k0_pay4 (F := Ideal) (k0_pay10 v0) (ktAt X4 k) (ix2 r x)
    = score v0 X4 r ⟨(512 * k + x.val) % 8192, Nat.mod_lt _ (by decide)⟩ := by
  pointwise [k0_pay4, k0_pay10, ktAt]
  rfl

theorem pay5_eq (k : ℕ) (m : Vec Ideal S1024x1 .f32) (r : Fin 1024) : k0_pay5 (F := Ideal) (k0_pay10 v0) (ktAt X4 k) m (ix2 r 0)
    = max (m (ix2 r 0)) ((Finset.univ : Finset (Fin 512)).fold max ⊥ fun x =>
      score v0 X4 r ⟨(512 * k + x.val) % 8192, Nat.mod_lt _ (by decide)⟩) := by
  unfold k0_pay5
  rw [RowMax.maximumf_at, col_apply]
  refine congrArg (max (m (ix2 r 0))) ((RowMax.kernel2 _ _ _ _ r).trans ?_)
  simp only [pay4_eq]

theorem st_zero1 : (st (F := Ideal) v0 X4 X5 0).1 = k0_pay11 := rfl
theorem st_zero2 : (st (F := Ideal) v0 X4 X5 0).2.1 = k0_pay12 := rfl
theorem st_zero3 : (st (F := Ideal) v0 X4 X5 0).2.2 = k0_pay13 := rfl
theorem st_succ1 (k : ℕ) : (st (F := Ideal) v0 X4 X5 (k + 1)).1
    = k0_pay14 (k0_pay5 (k0_pay10 v0) (ktAt X4 k) (st v0 X4 X5 k).1) := rfl
theorem st_succ2 (k : ℕ) : (st (F := Ideal) v0 X4 X5 (k + 1)).2.1
    = k0_pay8 (k0_pay10 v0) (ktAt X4 k) (st v0 X4 X5 k).1 (st v0 X4 X5 k).2.1 := rfl
theorem st_succ3 (k : ℕ) : (st (F := Ideal) v0 X4 X5 (k + 1)).2.2
    = k0_pay9 (k0_pay10 v0) (ktAt X4 k) (st v0 X4 X5 k).1 (vAt X5 k) (st v0 X4 X5 k).2.2 := rfl

theorem pay14_eq (x : FVec Ideal S1024x1 .f32) (r : Fin 1024) : k0_pay14 (F := Ideal) x (ix2 r 0) = x (ix2 r 0) := by
  pointwise [k0_pay14]

theorem pay8_eq (k : ℕ) (m l : Vec Ideal S1024x1 .f32) (r : Fin 1024) :
    k0_pay8 (F := Ideal) (k0_pay10 v0) (ktAt X4 k) m l (ix2 r 0)
      = Ideal.exp (m (ix2 r 0) - k0_pay5 (k0_pay10 v0) (ktAt X4 k) m (ix2 r 0)) * l (ix2 r 0)
        + ∑ x : Fin 512, Ideal.exp (score v0 X4 r ⟨(512 * k + x.val) % 8192, Nat.mod_lt _ (by decide)⟩
          - k0_pay5 (k0_pay10 v0) (ktAt X4 k) m (ix2 r 0)) := by
  pointwise [k0_pay8, k0_pay6, k0_pay7]
  simp only [pay4_eq]

theorem pay9_eq (k : ℕ) (m : Vec Ideal S1024x1 .f32) (a : Vec Ideal S1024x128 .f32) (r : Fin 1024) (d : Fin 128) :
    k0_pay9 (F := Ideal) (k0_pay10 v0) (ktAt X4 k) m (vAt X5 k) a (ix2 r d)
      = a (ix2 r d) * Ideal.exp (m (ix2 r 0) - k0_pay5 (k0_pay10 v0) (ktAt X4 k) m (ix2 r 0))
        + ∑ x : Fin 512, Ideal.exp (score v0 X4 r ⟨(512 * k + x.val) % 8192, Nat.mod_lt _ (by decide)⟩
          - k0_pay5 (k0_pay10 v0) (ktAt X4 k) m (ix2 r 0)) * X5 (ix4 0 0 ⟨(512 * k + x.val) % 8192, Nat.mod_lt _ (by decide)⟩ d) := by
  pointwise [k0_pay9, k0_pay6, k0_pay7, vAt]
  simp only [pay4_eq]

theorem pay15_eq (l : Vec Ideal S1024x1 .f32) (a : Vec Ideal S1024x128 .f32) (r : Fin 1024) (d : Fin 128) :
    k0_pay15 (F := Ideal) a l (ix2 r d) = Ideal.div (a (ix2 r d)) (l (ix2 r 0)) := by
  pointwise [k0_pay15]

theorem pay11_eq (r : Fin 1024) : k0_pay11 (F := Ideal) (ix2 r 0) = (⊥ : EReal) := by
  pointwise [k0_pay11]
  exact RowMax.ofBits_neg_inf

theorem pay12_eq (r : Fin 1024) : k0_pay12 (F := Ideal) (ix2 r 0) = (0 : EReal) := by
  pointwise [k0_pay12]

theorem pay13_eq (r : Fin 1024) (d : Fin 128) : k0_pay13 (F := Ideal) (ix2 r d) = (0 : EReal) := by
  pointwise [k0_pay13]

theorem blk_ideal (o : FVec Ideal S1024x128 .f32) (r : Fin 256) (l : Fin 512) (R : Fin 1024) (d : Fin 128)
    (hR : l.val / 128 * 256 + r.val = R.val) (hd : l.val % 128 = d.val) :
    blk (F := Ideal) o (ix3 (0 : Fin 1) r l : S1x256x512.Idx) = o (ix2 R d) := by
  have e := blk_at (F := Ideal) o (ix3 (0 : Fin 1) r l : S1x256x512.Idx) R d (by rw [ix3_2, ix3_1]; exact hR) (by rw [ix3_2]; exact hd)
  rw [e]
  pointwise

/-- Row `R`, column `d` of the quotient. -/
theorem quot_eq (R : Fin 1024) (d : Fin 128) (hs : ∀ j, ∃ x : ℝ, score v0 X4 R j = x) :
    k0_pay15 (F := Ideal) (st v0 X4 X5 16).2.2 (st v0 X4 X5 16).2.1 (ix2 R d)
      = attn (score v0 X4 R) (fun j => X5 (ix4 0 0 j d)) := by
  refine (pay15_eq _ _ R d).trans ?_
  exact online_attn (n := 512) (by decide) (by decide) rfl (by decide) _ _ hs (fun k => (st (F := Ideal) v0 X4 X5 k).1 (ix2 R 0))
    (fun k => (st (F := Ideal) v0 X4 X5 k).2.1 (ix2 R 0)) (fun k => (st (F := Ideal) v0 X4 X5 k).2.2 (ix2 R d))
    (by rw [st_zero1, pay11_eq]) (by rw [st_zero2, pay12_eq]) (by rw [st_zero3, pay13_eq])
    (fun k => by rw [st_succ1, pay14_eq, pay5_eq]) (fun k => by rw [st_succ2, pay8_eq, st_succ1, pay14_eq])
    (fun k => by rw [st_succ3, pay9_eq, st_succ1, pay14_eq])

/-- Row `r`, column `l` of the output block: the query is row `r` of query head `l / 128` of the group. -/
theorem block_eq (r : Fin 256) (l : Fin 512) (R : Fin 1024) (d : Fin 128) (hR : l.val / 128 * 256 + r.val = R.val)
    (hd : l.val % 128 = d.val) (hs : ∀ j, ∃ x : ℝ, score v0 X4 R j = x) :
    blk (F := Ideal) (k0_pay15 (st v0 X4 X5 16).2.2 (st v0 X4 X5 16).2.1) (ix3 (0 : Fin 1) r l : S1x256x512.Idx)
      = attn (score v0 X4 R) (fun j => X5 (ix4 0 0 j d)) := by
  rw [blk_ideal _ r l R d hR hd]
  exact quot_eq v0 X4 X5 R d hs

end

end Cert.Kernel2Ideal.Flash
end
-- ==== Proof.Result2.lean ====
/-
  The kernel's result array after the run, over the extended reals: at batch `b`, query `t`, head `h`, column `d` the
  softmax-weighted sum of the values' column (`arr_eq`).
-/
module

public import proofs.«01_k».proof.Proof.FlashIdeal2
public import Idealize.ShloMosaic.Lib.Pipeline.Covers

@[expose] public section

set_option maxRecDepth 16384

noncomputable section

namespace Cert.Kernel2Ideal.Result

open Cert.Kernel2Ideal Cert.Kernel2Ideal.Gen Idealize.ShloMosaic Idealize.ShloMosaic.TcCoe Idealize.SL.Sem Cert.Online

/-- The score of query `t` against key `j`, in head `h` of batch `b`. -/
def score (q : FVec Ideal S8x8x8192x128 .bf16) (kt : FVec Ideal S8x2x128x8192 .bf16) (b : Fin 8) (h : Fin 8) (t j : Fin 8192) :
    EReal := ∑ e : Fin 128, q (ix4 b h t e) * kt (ix4 b ⟨h.val / 4, by omega⟩ e j)

/-- The attention. -/
def res (q : FVec Ideal S8x8x8192x128 .bf16) (kt : FVec Ideal S8x2x128x8192 .bf16) (v : FVec Ideal S8x2x8192x128 .bf16) :
    FVec Ideal S8x8192x1024 .bf16 := fun i =>
  attn (score q kt ⟨(i 0).val, (i 0).isLt⟩ ⟨(i 2).val / 128, Nat.div_lt_of_lt_mul (i 2).isLt⟩ ⟨(i 1).val, (i 1).isLt⟩)
    fun j => v (ix4 ⟨(i 0).val, (i 0).isLt⟩ ⟨(i 2).val / 128 / 4, Nat.div_lt_of_lt_mul (Nat.div_lt_of_lt_mul (i 2).isLt)⟩ j ⟨(i 2).val % 128, Nat.mod_lt _ (by decide)⟩)

theorem res_at (q : FVec Ideal S8x8x8192x128 .bf16) (kt : FVec Ideal S8x2x128x8192 .bf16) (v : FVec Ideal S8x2x8192x128 .bf16)
    (i : S8x8192x1024.Idx) (b : Fin 8) (h : Fin 8) (t : Fin 8192) (d : Fin 128) (h0 : (i 0).val = b.val) (h1 : (i 1).val = t.val)
    (h2 : (i 2).val = h.val * 128 + d.val) :
    res q kt v i = attn (score q kt b h t) fun j => v (ix4 b ⟨h.val / 4, by omega⟩ j d) := by
  obtain rfl : b = ⟨(i 0).val, (i 0).isLt⟩ := Fin.ext h0.symm
  obtain rfl : t = ⟨(i 1).val, (i 1).isLt⟩ := Fin.ext h1.symm
  obtain rfl : h = ⟨(i 2).val / 128, Nat.div_lt_of_lt_mul (i 2).isLt⟩ := Fin.ext (by show h.val = (i 2).val / 128; omega)
  obtain rfl : d = ⟨(i 2).val % 128, Nat.mod_lt _ (by decide)⟩ := Fin.ext (by show d.val = (i 2).val % 128; omega)
  rfl

/-- The windows' block indices at a grid point. -/
theorem idx : ∀ t : Fin grid0.N,
    win0_0.index t = ![t.val / 64, t.val / 32 % 2, t.val % 32, 0]
    ∧ win0_1.index t = ![t.val / 64, t.val / 32 % 2, 0, 0]
    ∧ win0_2.index t = ![t.val / 64, t.val / 32 % 2, 0, 0]
    ∧ win0_3.index t = ![t.val / 64, t.val % 32, t.val / 32 % 2] := by
  decide +kernel

/-- Every block of the result is some grid point's. -/
theorem covers : (cfg0.win 3).Covers := by
  refine (cfg0.win 3).covers_of_indexMap_surj rfl (by decide) fun β => ?_
  have h0 : (β 0).val < 8 := lt_of_lt_of_eq (β 0).isLt (by decide)
  have h1 : (β 1).val < 32 := lt_of_lt_of_eq (β 1).isLt (by decide)
  have h2 : (β 2).val < 2 := lt_of_lt_of_eq (β 2).isLt (by decide)
  refine ⟨fun | 0 => ⟨(β 0).val, h0⟩ | 1 => ⟨(β 2).val, h2⟩ | 2 => ⟨(β 1).val, h1⟩, fun a => ?_⟩
  match a with
  | 0 => exact (BitVec.toNat_ofNat _ _).trans (Nat.mod_eq_of_lt (h0.trans (by decide)))
  | 1 => exact (BitVec.toNat_ofNat _ _).trans (Nat.mod_eq_of_lt (h1.trans (by decide)))
  | 2 => exact (BitVec.toNat_ofNat _ _).trans (Nat.mod_eq_of_lt (h2.trans (by decide)))

section
variable (m : (ℓ : Loc nD τ sig) → Buf (Elt Ideal) ℓ) (c : Dev nD) (t : Fin cfg0.N)

/-- The block of queries at a grid point: row `g`, `r` of it is token `r` of the block, of query head `g` of the group. -/
theorem q_blk (g : Fin 4) (r : Fin 256) (e : Fin 128) : iblk m c 0 t (ix4 0 g r e)
    = m ((c : Thread nD τ).loc main_arg0) (ix4 ⟨t.val / 64, by have := lt_of_lt_of_eq t.isLt N_0; omega⟩ ⟨t.val / 32 % 2 * 4 + g.val, by omega⟩
        ⟨t.val % 32 * 256 + r.val, by omega⟩ e) := by
  blk_ext [iblk, V, idx t]

theorem kt_blk (e : Fin 128) (j : Fin 8192) : iblk m c 1 t (ix4 0 0 e j)
    = m ((c : Thread nD τ).loc main_arg1) (ix4 ⟨t.val / 64, by have := lt_of_lt_of_eq t.isLt N_0; omega⟩ ⟨t.val / 32 % 2, by omega⟩ e j) := by
  blk_ext [iblk, V, idx t]

theorem v_blk (j : Fin 8192) (d : Fin 128) : iblk m c 2 t (ix4 0 0 j d)
    = m ((c : Thread nD τ).loc main_arg2) (ix4 ⟨t.val / 64, by have := lt_of_lt_of_eq t.isLt N_0; omega⟩ ⟨t.val / 32 % 2, by omega⟩ j d) := by
  blk_ext [iblk, V, idx t]

/-- The block's scores. -/
theorem score_blk (g : Fin 4) (r : Fin 256) (R : Fin 1024) (hR : g.val * 256 + r.val = R.val) :
    Flash.score (iblk m c 0 t) (iblk m c 1 t) R = score (m ((c : Thread nD τ).loc main_arg0)) (m ((c : Thread nD τ).loc main_arg1))
      ⟨t.val / 64, by have := lt_of_lt_of_eq t.isLt N_0; omega⟩ ⟨t.val / 32 % 2 * 4 + g.val, by omega⟩ ⟨t.val % 32 * 256 + r.val, by omega⟩ := by
  have hg : (⟨R.val / 256, by omega⟩ : Fin 4) = g := Fin.ext (by simp only; omega)
  have hr : (⟨R.val % 256, by omega⟩ : Fin 256) = r := Fin.ext (by simp only; omega)
  funext j
  have hh : (⟨(t.val / 32 % 2 * 4 + g.val) / 4, by omega⟩ : Fin 2) = ⟨t.val / 32 % 2, by omega⟩ := Fin.ext (by simp only; omega)
  unfold score Flash.score
  simp only [hh, hg, hr]
  exact Finset.sum_congr rfl fun e _ => congrArg₂ (· * ·) (q_blk m c t _ _ e) (kt_blk m c t e j)

/-- What a grid point computes, at an index of its block. -/
theorem point (hs : ∀ b h t j, ∃ x : ℝ, score (m ((c : Thread nD τ).loc main_arg0)) (m ((c : Thread nD τ).loc main_arg1)) b h t j = x)
    (r : Fin 256) (l : Fin 512) :
    Flash.blk (F := Ideal) (k0_pay15 (Flash.st (F := Ideal) (iblk m c 0 t) (iblk m c 1 t) (iblk m c 2 t) 16).2.2
        (Flash.st (F := Ideal) (iblk m c 0 t) (iblk m c 1 t) (iblk m c 2 t) 16).2.1) (ix3 (0 : Fin 1) r l : S1x256x512.Idx)
      = attn (score (m ((c : Thread nD τ).loc main_arg0)) (m ((c : Thread nD τ).loc main_arg1))
          ⟨t.val / 64, by have := lt_of_lt_of_eq t.isLt N_0; omega⟩ ⟨t.val / 32 % 2 * 4 + l.val / 128, by omega⟩ ⟨t.val % 32 * 256 + r.val, by omega⟩)
        fun j => m ((c : Thread nD τ).loc main_arg2) (ix4 ⟨t.val / 64, by have := lt_of_lt_of_eq t.isLt N_0; omega⟩ ⟨t.val / 32 % 2, by omega⟩ j ⟨l.val % 128, by omega⟩) := by
  have hsc := score_blk m c t ⟨l.val / 128, by omega⟩ r ⟨l.val / 128 * 256 + r.val, by omega⟩ rfl
  rw [Flash.block_eq _ _ _ r l ⟨l.val / 128 * 256 + r.val, by omega⟩ ⟨l.val % 128, by omega⟩ rfl rfl
    (fun j => by rw [hsc]; exact hs _ _ _ j), hsc]
  exact congrArg _ (funext fun j => v_blk m c t j _)

end

theorem arr_eq (m : (ℓ : Loc nD τ sig) → Buf (Elt Ideal) ℓ) (c : Dev nD)
    (hs : ∀ b h t j, ∃ x : ℝ, score (m ((c : Thread nD τ).loc main_arg0)) (m ((c : Thread nD τ).loc main_arg1)) b h t j = x) :
    (dats m 0 c).arrAt 3 cfg0.N = res (m ((c : Thread nD τ).loc main_arg0)) (m ((c : Thread nD τ).loc main_arg1))
      (m ((c : Thread nD τ).loc main_arg2)) := by
  refine (dats m 0 c).arrAt_eq_of_covers 3 _ covers fun t hf y => ?_
  blk_simp
  rw [after0_3]
  unfold outsAt0
  rw [Flash.out_eq]
  obtain ⟨r, l, rfl⟩ : ∃ (r : Fin 256) (l : Fin 512), y = (ix3 (0 : Fin 1) r l : S1x256x512.Idx) :=
    ⟨⟨(y 1).val, (y 1).isLt⟩, ⟨(y 2).val, (y 2).isLt⟩, by blk_ext⟩
  have hh : (⟨(t.val / 32 % 2 * 4 + l.val / 128) / 4, by omega⟩ : Fin 2) = ⟨t.val / 32 % 2, by omega⟩ := Fin.ext (by simp only; omega)
  refine (point m c t hs r l).trans ?_
  rw [← hh]
  refine (res_at _ _ _ _ _ _ _ _ ?_ ?_ ?_).symm
  · blk_simp [idx t]
    exact Nat.add_zero _
  · blk_simp [idx t]
  · blk_simp [idx t]
    dsimp only
    omega

end Cert.Kernel2Ideal.Result

end
-- ==== Proof.Softmax2.lean ====
/-
  The reference over the extended reals: its result at batch `b`, query `t`, head `h`, column `d` is the softmax-weighted sum
  of the values' column (`result_eq`).
-/
module

public import proofs.«01_k».proof.Proof.Gen.Reference2Ideal.Run
public import proofs.«01_k».proof.Proof.Online
public import proofs.«01_k».proof.Proof.RowMax
public import Idealize.ShloMosaic.Lib.Pointwise

@[expose] public section

set_option maxRecDepth 16384

noncomputable section

namespace Cert.Reference2Ideal.Softmax

open Cert.Reference2Ideal Cert.Reference2Ideal.Gen Idealize.ShloMosaic Idealize.ShloMosaic.TcCoe Idealize.SL.Sem Cert.Online
open Cert.Reference2Ideal.Facts

variable (q : FVec Ideal S8x8x8192x128 .bf16) (kt : FVec Ideal S8x2x128x8192 .bf16) (v : FVec Ideal S8x2x8192x128 .bf16)

/-- The scores. -/
def scores : FVec Ideal S8x2x4x8192x8192 .f32 :=
  transpose S8x2x4x8192x8192 [0, 1, 4, 3, 2] (Host.dotGeneral dot_S8x8192x2x128_S8x8192x2x4x128_S8x2x8192x8192x4_3_4_1_13_02_02 none
    (transpose S8x8192x2x128 [0, 3, 1, 2] (extf .f32 kt bitsLt_bf16_f32) transposes_S8x2x128x8192_S8x8192x2x128_0_3_1_2)
    (shapeCast S8x8192x2x4x128 (transpose S8x8192x8x128 [0, 2, 1, 3] (extf .f32 q bitsLt_bf16_f32)
      transposes_S8x8x8192x128_S8x8192x8x128_0_2_1_3) shapeCasts_S8x8192x8x128_S8x8192x2x4x128)
    : FVec Ideal S8x2x8192x8192x4 .f32) transposes_S8x2x8192x8192x4_S8x2x4x8192x8192_0_1_4_3_2

theorem scores_eq (b : Fin 8) (h : Fin 2) (g : Fin 4) (t j : Fin 8192) : scores q kt (ix5 b h g t j)
    = ∑ e : Fin 128, q (ix4 b ⟨h.val * 4 + g.val, by omega⟩ t e) * kt (ix4 b h e j) := by
  pointwise [scores]
  exact Finset.sum_congr rfl fun e _ => mul_comm _ _

/-- The greatest score of a query. -/
def rowMax (s : FVec Ideal S8x2x4x8192x8192 .f32) : FVec Ideal S8x2x4x8192 .f32 :=
  maximumf (broadcastInDim S8x2x4x8192 ![] bcast_S_S8x2x4x8192 (constant S_ .f32 0xFF800000#32))
    (Host.reduce FloatOps.maximumf s (constant S_ .f32 0xFF800000#32) reducesTo_S8x2x4x8192x8192_S8x2x4x8192_d4 h_S_)

theorem rowMax_eq (s : FVec Ideal S8x2x4x8192x8192 .f32) (b : Fin 8) (h : Fin 2) (g : Fin 4) (t : Fin 8192) : rowMax s (ix4 b h g t)
    = (Finset.univ : Finset (Fin 8192)).fold max ⊥ fun j => s (ix5 b h g t j) := by
  unfold rowMax
  rw [RowMax.maximumf_at, RowMax.neg_inf_at, max_eq_right bot_le]
  refine (RowMax.host5 _ _ _ _ b h g t).trans ?_
  rw [RowMax.neg_inf_const]

/-- The exponentials of the scores less their greatest. -/
def exps (s : FVec Ideal S8x2x4x8192x8192 .f32) : FVec Ideal S8x2x4x8192x8192 .f32 :=
  Host.exp (subf s (broadcastInDim S8x2x4x8192x8192 ![0, 1, 2, 3, 4] bcast_S8x2x4x8192x1_S8x2x4x8192x8192_0_1_2_3_4
    (broadcastInDim S8x2x4x8192x1 ![0, 1, 2, 3] bcast_S8x2x4x8192_S8x2x4x8192x1_0_1_2_3 (rowMax s))))

theorem exps_eq (s : FVec Ideal S8x2x4x8192x8192 .f32) (b : Fin 8) (h : Fin 2) (g : Fin 4) (t j : Fin 8192) : exps s (ix5 b h g t j)
    = Ideal.exp (s (ix5 b h g t j) - rowMax s (ix4 b h g t)) := by
  pointwise [exps]

/-- The exponentials over their sum, times the values. -/
def outs (p : FVec Ideal S8x2x4x8192x8192 .f32) : FVec Ideal S8x8192x1024 .bf16 :=
  truncf .bf16 (shapeCast S8x8192x1024 (transpose S8x8192x2x4x128 [0, 4, 1, 3, 2]
    (Host.dotGeneral dot_S8x8192x2x128_S8x2x4x8192x8192_S8x2x128x4x8192_1_4_3_23_02_01 none
      (transpose S8x8192x2x128 [0, 2, 1, 3] (extf .f32 v bitsLt_bf16_f32) transposes_S8x2x8192x128_S8x8192x2x128_0_2_1_3)
      (Host.divf p (broadcastInDim S8x2x4x8192x8192 ![0, 1, 2, 3, 4] bcast_S8x2x4x8192x1_S8x2x4x8192x8192_0_1_2_3_4
        (broadcastInDim S8x2x4x8192x1 ![0, 1, 2, 3] bcast_S8x2x4x8192_S8x2x4x8192x1_0_1_2_3
          (Host.reduceAdd p (constant S_ .f32 0x00000000#32) reducesTo_S8x2x4x8192x8192_S8x2x4x8192_d4 h_S_))))
      : FVec Ideal S8x2x128x4x8192 .f32)
    transposes_S8x2x128x4x8192_S8x8192x2x4x128_0_4_1_3_2) shapeCasts_S8x8192x2x4x128_S8x8192x1024) bitsLt_bf16_f32

theorem outs_eq (p : FVec Ideal S8x2x4x8192x8192 .f32) (b : Fin 8) (t : Fin 8192) (l : Fin 1024) : outs v p (ix3 b t l)
    = ∑ j : Fin 8192, Ideal.div (p (ix5 b ⟨l.val / 512, by omega⟩ ⟨l.val / 128 % 4, by omega⟩ t j)) (∑ j' : Fin 8192, p (ix5 b ⟨l.val / 512, by omega⟩ ⟨l.val / 128 % 4, by omega⟩ t j'))
      * v (ix4 b ⟨l.val / 512, by omega⟩ j ⟨l.val % 128, by omega⟩) := by
  pointwise [outs]
  exact Finset.sum_congr rfl fun e _ => mul_comm _ _

/-- The result, at batch `b`, query `t`, lane `l`: query head `l / 128`, key head `l / 128 / 4`, column `l % 128`. -/
theorem result_eq (b : Fin 8) (t : Fin 8192) (l : Fin 1024) : outs v (exps (scores q kt)) (ix3 b t l)
    = attn (fun j : Fin 8192 => ∑ e : Fin 128, q (ix4 b ⟨l.val / 128, by omega⟩ t e) * kt (ix4 b ⟨l.val / 128 / 4, by omega⟩ e j))
        fun j => v (ix4 b ⟨l.val / 128 / 4, by omega⟩ j ⟨l.val % 128, by omega⟩) := by
  rw [outs_eq]
  simp only [exps_eq, rowMax_eq, scores_eq]
  have hq : (⟨l.val / 512 * 4 + l.val / 128 % 4, by omega⟩ : Fin 8) = ⟨l.val / 128, by omega⟩ := Fin.ext (by simp only; omega)
  have hk : (⟨l.val / 512, by omega⟩ : Fin 2) = ⟨l.val / 128 / 4, by omega⟩ := Fin.ext (by simp only; omega)
  simp only [hq, hk]
  rfl

/-- The reference's run, its result named. -/
theorem run_outs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = outs (m ((c.tc : Thread nD τ).loc main_arg2))
        (exps (scores (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference2Ideal.Value.run (F := Ideal) m ρ

end Cert.Reference2Ideal.Softmax

end
-- ==== Proof.Finite2.lean ====
/-
  What the precondition `finite2` says over the extended reals: every query and every key is a real number.
-/
module

public import proofs.«01_k».proof.Pre_finite2
public import proofs.«01_k».proof.Proof.Finite

@[expose] public section

noncomputable section

namespace Cert.Pre_finite2

open Idealize.ShloMosaic Cert.Finite

theorem facts : Facts := ⟨by decide, by decide, by decide⟩

attribute [instance] facts

theorem q_real (q : FVec Ideal S8x8x8192x128 .bf16) (kt : FVec Ideal S8x2x128x8192 .bf16) (v : FVec Ideal S8x2x8192x128 .bf16)
    (h : (fn q kt v).1 = fun _ => 1#1) (i : S8x8x8192x128.Idx) : ∃ r : ℝ, q i = r := by
  have hi := congrFun h i
  idx_vars i
  pointwise [fn] at hi
  exact real_of_bit _ hi

theorem kt_real (q : FVec Ideal S8x8x8192x128 .bf16) (kt : FVec Ideal S8x2x128x8192 .bf16) (v : FVec Ideal S8x2x8192x128 .bf16)
    (h : (fn q kt v).2 = fun _ => 1#1) (i : S8x2x128x8192.Idx) : ∃ r : ℝ, kt i = r := by
  have hi := congrFun h i
  idx_vars i
  pointwise [fn] at hi
  exact real_of_bit _ hi

end Cert.Pre_finite2

end
-- ==== Proof.Attention2.lean ====
/-
  The claims about the attention with four query heads to a key head: the frames of the three programs, and the value claim.
-/
module

public import proofs.«01_k».proof.Defs
public import proofs.«01_k».proof.Proof.Gen.Kernel2.Frame
public import proofs.«01_k».proof.Proof.Gen.Kernel2Ideal.Value
public import proofs.«01_k».proof.Proof.Result2
public import proofs.«01_k».proof.Proof.Softmax2
public import proofs.«01_k».proof.Proof.Finite2

@[expose] public section

set_option maxRecDepth 16384

noncomputable section

namespace Cert.Attention2

open Idealize.ShloMosaic Idealize.ShloMosaic.TcCoe Idealize.SL.Sem

attribute [local instance] Cert.Kernel2.Gen.facts Cert.Kernel2Ideal.Gen.facts Cert.Reference2Ideal.Gen.facts

theorem frame_p : Cert.quiescent_Kernel2 := fun m ρ _ => Cert.Kernel2.Gen.frame m ρ

theorem frame_pi : Cert.quiescent_Kernel2Ideal := fun m ρ _ => Cert.Kernel2Ideal.Gen.frame m ρ

theorem frame_pi_finite : Cert.quiescent_Kernel2Ideal_pre_finite2 := fun m ρ _ => Cert.Kernel2Ideal.Gen.frame m ρ

/-- The reference's frame, off its generated run; it declares no semaphore. -/
theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_ri_finite : Cert.quiescent_Reference2Ideal_pre_finite2 := fun m ρ _ => frame_ri m ρ trivial

/-- From finite queries and keys the kernel and the reference leave the same array. -/
theorem algebraic : Cert.algebraic_Kernel2Ideal_Reference2Ideal_pre_finite2 := by
  intro m ρ m' ρ' hpre hagree
  refine ⟨fun c => Cert.Kernel2Ideal.Result.res (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2)), ?_, ?_⟩
  · refine (θ_run Cert.Kernel2Ideal.defs _ _).mono (fun r h c => ⟨(h c).1.trans ?_, (h c).2⟩) (Cert.Kernel2Ideal.Value.run_blocks (F := Ideal) m ρ)
    refine Cert.Kernel2Ideal.Result.arr_eq m c fun b h t j => Cert.Online.dot_real _ _ _ (fun e => ?_) fun e => ?_
    · exact Cert.Pre_finite2.q_real _ _ _ (hpre c).1 _
    · exact Cert.Pre_finite2.kt_real _ _ _ (hpre c).2 _
  · refine (θ_run Cert.Reference2Ideal.defs _ _).mono (fun r h c => ⟨(h c).1.trans ?_, (h c).2⟩) (Cert.Reference2Ideal.Softmax.run_outs m' ρ')
    rw [(hagree c).1, (hagree c).2.1, (hagree c).2.2]
    funext i
    idx_vars i
    exact Cert.Reference2Ideal.Softmax.result_eq _ _ _ _ _ _

end Cert.Attention2

end
-- ==== Proof.MoeRunIdeal.lean ====
module

public import proofs.«01_k».proof.Proof.Gen.Kernel3Ideal.Loops
public import proofs.«01_k».proof.Proof.Gen.Kernel3Ideal.Launch
public import Idealize.ShloMosaic.Lib.Pipeline.Frame
public import Idealize.ShloMosaic.Lib.Tactic

@[expose] public section

/-! One grid point of the expert layer: from the blocks, the table of counts, the result's block and the scratch the body runs
to its end, keeping the inputs and writing pieces into the result's block. Four cases: the first expert clears the block first
or a later one adds to it; an odd number of slot blocks clears one more block of the scratch or an even one does not. -/

set_option maxRecDepth 16384
set_option maxHeartbeats 4000000

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The table's entry a grid point reads. -/
def word (i : grid0.Coords) (x3 : Vec F S512 .i32) : Elt F .i32 :=
  x3 ((Rect.unit (s := S512) (k0_off1 i) S1.size (k0_off1_inb i)).toLoadRect.idx (Shape.Idx.first (by show 0 < S1.numel; decide)))

/-- Reading the table at a grid point gives the point's entry. -/
theorem word_load (c : Dev nD) (i : grid0.Coords) (arg3 : Memref sig .tc .smem S512 .i32) (harg3 : arg3.IsWhole) (x3 : Vec F S512 .i32)
    (E : Set ℕ) (Q : Elt F .i32 → sProp 𝕄) :
    iprop(owns (c : Thread nD τ) arg3 fullShare.right x3 ∗ (owns (c : Thread nD τ) arg3 fullShare.right x3 -∗ Q (word i x3)))
      ⊢ wp frame (wpE (defs₀ (F := F)) Variants.none c none) E
          (smemLoad arg3 (Rect.unit (s := S512) (k0_off1 i) S1.size (k0_off1_inb i)) numel1_S1 rfl) Q := by
  have hr : arg3.view.readAt (Elt F) (Rect.unit (s := S512) (k0_off1 i) S1.size (k0_off1_inb i)).toLoadRect (harg3.unread x3)
      (Shape.Idx.first (by show 0 < S1.numel; decide)) = word i x3 := congrFun (harg3.read_unread x3) _
  rw [← hr]
  unfold owns
  iintro ⟨⟨%f, %hf, H⟩, Hk⟩
  obtain rfl := harg3.eq_unread hf
  sl_exec
  sl_step
  iapply Hk
  iexists _; isplitr; · ipureintro; exact harg3.read_unread _
  iexact H

/-- The body at the first expert, an odd number of slot blocks: the pieces it writes into the result's block, with the run. -/
def runFO (c : Dev nD) (i : grid0.Coords) (arg3 : Memref sig .tc .smem S512 .i32) (harg3 : arg3.IsWhole) (arg4 : Memref sig .tc .vmem S1x2048x1024 .bf16) (harg4 : arg4.IsWhole) (arg5 : Memref sig .tc .vmem S1x1x1x2048 .f32) (harg5 : arg5.IsWhole) (arg6 : Memref sig .tc .vmem S1x2048x16 .f32) (harg6 : arg6.IsWhole) (arg7 : Memref sig .tc .vmem S1x2048x16 .f32) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x2048x1024 .f32) (harg11 : arg11.IsWhole) (arg12 : Memref sig .tc .vmem S1152x1024 .bf16) (harg12 : arg12.IsWhole)
    (x3 : Vec F S512 .i32) (x4 : Vec F S1x2048x1024 .bf16) (x5 : Vec F S1x1x1x2048 .f32) (x6 : Vec F S1x2048x16 .f32) (x7 : Vec F S1x2048x16 .f32) (x8 : Vec F S1x1024x1024 .bf16) (x9 : Vec F S1x1024x1024 .bf16) (x10 : Vec F S1x1024x1024 .bf16) (x12 : Vec F S1152x1024 .bf16) (nb : Elt F .i32) (hw : word i x3 = nb) (hchk : k0_chk1 nb) (h2 : k0_cond2 nb = 1#1)
    (h1 : Scalar.cmpi .ne (Scalar.extui (Scalar.cmpi .eq (BitVec.ofNat 32 (i 2).val) 0#32)) 0#32 = 1#1) :
    { L : List (View.Piece (Elt F) S1x2048x1024 .f32) //
      ∀ (E : Set ℕ) (K : PUnit → sProp 𝕄),
        iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare x12
            ∗ (iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L) ∗ (∃ d, owns (c : Thread nD τ) arg12 fullShare d)) -∗ K ⟨⟩))
          ⊢ wp frame (wpE (defs₀ (F := F)) Variants.none c none) E (cc0_moe_ffn i arg3 harg3 arg4 harg4 arg5 harg5 arg6 harg6 arg7 harg7 arg8 harg8 arg9 harg9 arg10 harg10 arg11 harg11 arg12 harg12) K } := by
  refine ⟨?_, fun E K => ?run⟩
  case run =>
    simp only [cc0_moe_ffn_eq_skeleton]; unfold cc0_moe_ffn_skel; simp only [k0_part9_eq_skeleton]; unfold k0_part9_skel
    generalize hT : (owns (c : Thread nD τ) arg3 fullShare.right x3 : sProp 𝕄) = T
    unfold owns
    iintro ⟨H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg12.eq_unread hf12
    sl_exec
    rw [← hT]
    iapply (word_load c i arg3 harg3 x3 E)
    isplitl [H3]; · iexact H3
    iintro H3
    rw [hw]
    sl_exec
    simp only [bind_assoc, pure_bind]
    sl_exec
    sl_step
    iapply Hk
    isplitl [H3]; · iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    iexists _, _; isplitr; swap; · iexact H12
    ipureintro; rfl

/-- The body at the first expert, an even number of slot blocks: the pieces it writes into the result's block, with the run. -/
def runFE (c : Dev nD) (i : grid0.Coords) (arg3 : Memref sig .tc .smem S512 .i32) (harg3 : arg3.IsWhole) (arg4 : Memref sig .tc .vmem S1x2048x1024 .bf16) (harg4 : arg4.IsWhole) (arg5 : Memref sig .tc .vmem S1x1x1x2048 .f32) (harg5 : arg5.IsWhole) (arg6 : Memref sig .tc .vmem S1x2048x16 .f32) (harg6 : arg6.IsWhole) (arg7 : Memref sig .tc .vmem S1x2048x16 .f32) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x2048x1024 .f32) (harg11 : arg11.IsWhole) (arg12 : Memref sig .tc .vmem S1152x1024 .bf16) (harg12 : arg12.IsWhole)
    (x3 : Vec F S512 .i32) (x4 : Vec F S1x2048x1024 .bf16) (x5 : Vec F S1x1x1x2048 .f32) (x6 : Vec F S1x2048x16 .f32) (x7 : Vec F S1x2048x16 .f32) (x8 : Vec F S1x1024x1024 .bf16) (x9 : Vec F S1x1024x1024 .bf16) (x10 : Vec F S1x1024x1024 .bf16) (x12 : Vec F S1152x1024 .bf16) (nb : Elt F .i32) (hw : word i x3 = nb) (hchk : k0_chk1 nb) (h2 : ¬ k0_cond2 nb = 1#1)
    (h1 : Scalar.cmpi .ne (Scalar.extui (Scalar.cmpi .eq (BitVec.ofNat 32 (i 2).val) 0#32)) 0#32 = 1#1) :
    { L : List (View.Piece (Elt F) S1x2048x1024 .f32) //
      ∀ (E : Set ℕ) (K : PUnit → sProp 𝕄),
        iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare x12
            ∗ (iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L) ∗ (∃ d, owns (c : Thread nD τ) arg12 fullShare d)) -∗ K ⟨⟩))
          ⊢ wp frame (wpE (defs₀ (F := F)) Variants.none c none) E (cc0_moe_ffn i arg3 harg3 arg4 harg4 arg5 harg5 arg6 harg6 arg7 harg7 arg8 harg8 arg9 harg9 arg10 harg10 arg11 harg11 arg12 harg12) K } := by
  refine ⟨?_, fun E K => ?run⟩
  case run =>
    simp only [cc0_moe_ffn_eq_skeleton]; unfold cc0_moe_ffn_skel; simp only [k0_part9_eq_skeleton]; unfold k0_part9_skel
    generalize hT : (owns (c : Thread nD τ) arg3 fullShare.right x3 : sProp 𝕄) = T
    unfold owns
    iintro ⟨H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg12.eq_unread hf12
    sl_exec
    rw [← hT]
    iapply (word_load c i arg3 harg3 x3 E)
    isplitl [H3]; · iexact H3
    iintro H3
    rw [hw]
    sl_exec
    simp only [bind_assoc, pure_bind]
    sl_exec
    sl_step
    iapply Hk
    isplitl [H3]; · iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    iexists _, _; isplitr; swap; · iexact H12
    ipureintro; rfl

/-- The body at a later expert, an odd number of slot blocks: the pieces it writes into the result's block, with the run. -/
def runLO (c : Dev nD) (i : grid0.Coords) (arg3 : Memref sig .tc .smem S512 .i32) (harg3 : arg3.IsWhole) (arg4 : Memref sig .tc .vmem S1x2048x1024 .bf16) (harg4 : arg4.IsWhole) (arg5 : Memref sig .tc .vmem S1x1x1x2048 .f32) (harg5 : arg5.IsWhole) (arg6 : Memref sig .tc .vmem S1x2048x16 .f32) (harg6 : arg6.IsWhole) (arg7 : Memref sig .tc .vmem S1x2048x16 .f32) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x2048x1024 .f32) (harg11 : arg11.IsWhole) (arg12 : Memref sig .tc .vmem S1152x1024 .bf16) (harg12 : arg12.IsWhole)
    (x3 : Vec F S512 .i32) (x4 : Vec F S1x2048x1024 .bf16) (x5 : Vec F S1x1x1x2048 .f32) (x6 : Vec F S1x2048x16 .f32) (x7 : Vec F S1x2048x16 .f32) (x8 : Vec F S1x1024x1024 .bf16) (x9 : Vec F S1x1024x1024 .bf16) (x10 : Vec F S1x1024x1024 .bf16) (x11 : Vec F S1x2048x1024 .f32) (x12 : Vec F S1152x1024 .bf16) (nb : Elt F .i32) (hw : word i x3 = nb) (hchk : k0_chk1 nb) (h2 : k0_cond2 nb = 1#1)
    (h1 : ¬ Scalar.cmpi .ne (Scalar.extui (Scalar.cmpi .eq (BitVec.ofNat 32 (i 2).val) 0#32)) 0#32 = 1#1) :
    { L : List (View.Piece (Elt F) S1x2048x1024 .f32) //
      ∀ (E : Set ℕ) (K : PUnit → sProp 𝕄),
        iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L) ∗ (∃ d, owns (c : Thread nD τ) arg12 fullShare d)) -∗ K ⟨⟩))
          ⊢ wp frame (wpE (defs₀ (F := F)) Variants.none c none) E (cc0_moe_ffn i arg3 harg3 arg4 harg4 arg5 harg5 arg6 harg6 arg7 harg7 arg8 harg8 arg9 harg9 arg10 harg10 arg11 harg11 arg12 harg12) K } := by
  refine ⟨?_, fun E K => ?run⟩
  case run =>
    simp only [cc0_moe_ffn_eq_skeleton]; unfold cc0_moe_ffn_skel; simp only [k0_part9_eq_skeleton]; unfold k0_part9_skel
    generalize hT : (owns (c : Thread nD τ) arg3 fullShare.right x3 : sProp 𝕄) = T
    unfold owns
    iintro ⟨H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    sl_exec
    rw [← hT]
    iapply (word_load c i arg3 harg3 x3 E)
    isplitl [H3]; · iexact H3
    iintro H3
    rw [hw]
    sl_exec
    simp only [bind_assoc, pure_bind]
    sl_exec
    sl_step
    iapply Hk
    isplitl [H3]; · iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    iexists _, _; isplitr; swap; · iexact H12
    ipureintro; rfl

/-- The body at a later expert, an even number of slot blocks: the pieces it writes into the result's block, with the run. -/
def runLE (c : Dev nD) (i : grid0.Coords) (arg3 : Memref sig .tc .smem S512 .i32) (harg3 : arg3.IsWhole) (arg4 : Memref sig .tc .vmem S1x2048x1024 .bf16) (harg4 : arg4.IsWhole) (arg5 : Memref sig .tc .vmem S1x1x1x2048 .f32) (harg5 : arg5.IsWhole) (arg6 : Memref sig .tc .vmem S1x2048x16 .f32) (harg6 : arg6.IsWhole) (arg7 : Memref sig .tc .vmem S1x2048x16 .f32) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x2048x1024 .f32) (harg11 : arg11.IsWhole) (arg12 : Memref sig .tc .vmem S1152x1024 .bf16) (harg12 : arg12.IsWhole)
    (x3 : Vec F S512 .i32) (x4 : Vec F S1x2048x1024 .bf16) (x5 : Vec F S1x1x1x2048 .f32) (x6 : Vec F S1x2048x16 .f32) (x7 : Vec F S1x2048x16 .f32) (x8 : Vec F S1x1024x1024 .bf16) (x9 : Vec F S1x1024x1024 .bf16) (x10 : Vec F S1x1024x1024 .bf16) (x11 : Vec F S1x2048x1024 .f32) (x12 : Vec F S1152x1024 .bf16) (nb : Elt F .i32) (hw : word i x3 = nb) (hchk : k0_chk1 nb) (h2 : ¬ k0_cond2 nb = 1#1)
    (h1 : ¬ Scalar.cmpi .ne (Scalar.extui (Scalar.cmpi .eq (BitVec.ofNat 32 (i 2).val) 0#32)) 0#32 = 1#1) :
    { L : List (View.Piece (Elt F) S1x2048x1024 .f32) //
      ∀ (E : Set ℕ) (K : PUnit → sProp 𝕄),
        iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L) ∗ (∃ d, owns (c : Thread nD τ) arg12 fullShare d)) -∗ K ⟨⟩))
          ⊢ wp frame (wpE (defs₀ (F := F)) Variants.none c none) E (cc0_moe_ffn i arg3 harg3 arg4 harg4 arg5 harg5 arg6 harg6 arg7 harg7 arg8 harg8 arg9 harg9 arg10 harg10 arg11 harg11 arg12 harg12) K } := by
  refine ⟨?_, fun E K => ?run⟩
  case run =>
    simp only [cc0_moe_ffn_eq_skeleton]; unfold cc0_moe_ffn_skel; simp only [k0_part9_eq_skeleton]; unfold k0_part9_skel
    generalize hT : (owns (c : Thread nD τ) arg3 fullShare.right x3 : sProp 𝕄) = T
    unfold owns
    iintro ⟨H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    sl_exec
    rw [← hT]
    iapply (word_load c i arg3 harg3 x3 E)
    isplitl [H3]; · iexact H3
    iintro H3
    rw [hw]
    sl_exec
    simp only [bind_assoc, pure_bind]
    sl_exec
    sl_step
    iapply Hk
    isplitl [H3]; · iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    iexists _, _; isplitr; swap; · iexact H12
    ipureintro; rfl

end Cert.Kernel3Ideal.Moe

end
-- ==== Proof.MoeFrameIdeal.lean ====
module

public import proofs.«01_k».proof.Proof.MoeRunIdeal
public import Idealize.ShloMosaic.Lib.Pipeline.Frame
public import Idealize.ShloMosaic.Lib.Pipeline.DatRel
public import Idealize.ShloMosaic.Lib.Pipeline.ArrRel
public import Idealize.ShloMosaic.Lib.Claim
public import Idealize.ShloMosaic.Lib.Tactic

@[expose] public section

/-! The expert layer's whole call: every grid point runs, whatever a relation says of the result's block, from a table whose
entries are at most eight. -/

set_option maxRecDepth 16384
set_option maxHeartbeats 4000000

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table of slot-block counts at the launch. -/
abbrev tbl : Vec F S512 .i32 := m (((0 : Dev nD) : Thread nD τ).loc main_arg4)

/-- The tables the call runs at: the launch's own. -/
abbrev tab : (pcfg0 (F := F)).Adm := ⟨fun k => m (((0 : Dev nD) : Thread nD τ).loc (pre0.ref k)), trivial⟩

/-- The call at those tables. -/
abbrev cfgA : Cfg sig Λ₀ := cfg0 (tab m)

/-- The buffers as the call finds them. -/
abbrev V (c : Dev nD) (b : Ref sig .tc) : Buf (Elt F) ((c : Thread nD τ).loc b) := m ((c : Thread nD τ).loc b)

/-- An input window's block at a point. -/
def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef spec0 w))

/-- The result's window, whose contents are held to a relation. -/
def marked : Fin 8 → Bool := fun w => match w with | ⟨7, _⟩ => true | _ => false

/-- The call's data: inputs keep their blocks, the scratch and the table are held between points, nothing is owed. -/
def dat (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.arbitrary _
  Φ _ := iprop(Pipeline.ΦA spec0 c ∗ Pipeline.ΦT pre0 (tab m).1 c)
  q _ := fullShare
  owed _ := 0

theorem A_eq (c : Dev nD) (w : Fin (cfgA m).W) : (dat m c).A w = V m c (Pipeline.arrRef spec0 w) := by
  dsimp only [dat]

theorem after_0 (c : Dev nD) (t : Fin (cfgA m).N) : (dat m c).after 0 t = iblk m c 0 t := by dsimp only [dat]; rfl
theorem before_0 (c : Dev nD) (t : Fin (cfgA m).N) (d) : (dat m c).before 0 t d = iblk m c 0 t :=
  ((dat m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin (cfgA m).N) : (dat m c).after 1 t = iblk m c 1 t := by dsimp only [dat]; rfl
theorem before_1 (c : Dev nD) (t : Fin (cfgA m).N) (d) : (dat m c).before 1 t d = iblk m c 1 t :=
  ((dat m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin (cfgA m).N) : (dat m c).after 2 t = iblk m c 2 t := by dsimp only [dat]; rfl
theorem before_2 (c : Dev nD) (t : Fin (cfgA m).N) (d) : (dat m c).before 2 t d = iblk m c 2 t :=
  ((dat m c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin (cfgA m).N) : (dat m c).after 3 t = iblk m c 3 t := by dsimp only [dat]; rfl
theorem before_3 (c : Dev nD) (t : Fin (cfgA m).N) (d) : (dat m c).before 3 t d = iblk m c 3 t :=
  ((dat m c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin (cfgA m).N) : (dat m c).after 4 t = iblk m c 4 t := by dsimp only [dat]; rfl
theorem before_4 (c : Dev nD) (t : Fin (cfgA m).N) (d) : (dat m c).before 4 t d = iblk m c 4 t :=
  ((dat m c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin (cfgA m).N) : (dat m c).after 5 t = iblk m c 5 t := by dsimp only [dat]; rfl
theorem before_5 (c : Dev nD) (t : Fin (cfgA m).N) (d) : (dat m c).before 5 t d = iblk m c 5 t :=
  ((dat m c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin (cfgA m).N) : (dat m c).after 6 t = iblk m c 6 t := by dsimp only [dat]; rfl
theorem before_6 (c : Dev nD) (t : Fin (cfgA m).N) (d) : (dat m c).before 6 t d = iblk m c 6 t :=
  ((dat m c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
abbrev ms0 (t : Fin (cfgA m).N) : Memref sig .tc .vmem S1x2048x1024 .bf16 := ((cfgA m).win 0).stage ((cfgA m).slots t 0)
abbrev hs0 (t : Fin (cfgA m).N) : (ms0 m t).IsWhole := hstage0_0 (((cfgA m).slots t 0).cast nbuf0_0)
abbrev ms1 (t : Fin (cfgA m).N) : Memref sig .tc .vmem S1x1x1x2048 .f32 := ((cfgA m).win 1).stage ((cfgA m).slots t 1)
abbrev hs1 (t : Fin (cfgA m).N) : (ms1 m t).IsWhole := hstage0_1 (((cfgA m).slots t 1).cast nbuf0_1)
abbrev ms2 (t : Fin (cfgA m).N) : Memref sig .tc .vmem S1x2048x16 .f32 := ((cfgA m).win 2).stage ((cfgA m).slots t 2)
abbrev hs2 (t : Fin (cfgA m).N) : (ms2 m t).IsWhole := hstage0_2 (((cfgA m).slots t 2).cast nbuf0_2)
abbrev ms3 (t : Fin (cfgA m).N) : Memref sig .tc .vmem S1x2048x16 .f32 := ((cfgA m).win 3).stage ((cfgA m).slots t 3)
abbrev hs3 (t : Fin (cfgA m).N) : (ms3 m t).IsWhole := hstage0_3 (((cfgA m).slots t 3).cast nbuf0_3)
abbrev ms4 (t : Fin (cfgA m).N) : Memref sig .tc .vmem S1x1024x1024 .bf16 := ((cfgA m).win 4).stage ((cfgA m).slots t 4)
abbrev hs4 (t : Fin (cfgA m).N) : (ms4 m t).IsWhole := hstage0_4 (((cfgA m).slots t 4).cast nbuf0_4)
abbrev ms5 (t : Fin (cfgA m).N) : Memref sig .tc .vmem S1x1024x1024 .bf16 := ((cfgA m).win 5).stage ((cfgA m).slots t 5)
abbrev hs5 (t : Fin (cfgA m).N) : (ms5 m t).IsWhole := hstage0_5 (((cfgA m).slots t 5).cast nbuf0_5)
abbrev ms6 (t : Fin (cfgA m).N) : Memref sig .tc .vmem S1x1024x1024 .bf16 := ((cfgA m).win 6).stage ((cfgA m).slots t 6)
abbrev hs6 (t : Fin (cfgA m).N) : (ms6 m t).IsWhole := hstage0_6 (((cfgA m).slots t 6).cast nbuf0_6)
abbrev ms7 (t : Fin (cfgA m).N) : Memref sig .tc .vmem S1x2048x1024 .f32 := ((cfgA m).win 7).stage ((cfgA m).slots t 7)
abbrev hs7 (t : Fin (cfgA m).N) : (ms7 m t).IsWhole := hstage0_7 (((cfgA m).slots t 7).cast nbuf0_7)

/-- The body at a point, on the blocks the pipeline passes it. -/
abbrev bodyAt (t : Fin (cfgA m).N) : Prog (TpuEff nD τ sig (Elt F) Λ₀ .tc) PUnit :=
  cc0_moe_ffn (grid0.coords t) (Memref.whole main_arg4) (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (Memref.whole cc0_scratch0) (Memref.isWhole_whole _)

theorem defs₀_row (t : Fin (cfgA m).N) : defs₀ (F := F) .tc (cfgA m).body ((cfgA m).bodyArgs t ((cfgA m).slots t)) = bodyAt m t := by
  unfold defs₀; rw [Defs.onTc_tc]; rfl

theorem phiA_eq (c : Dev nD) :
    (Pipeline.ΦA spec0 c : sProp 𝕄)
      = iprop((∃ d, owns (c : Thread nD τ) (Memref.whole cc0_scratch0 : Memref sig .tc .vmem S1152x1024 .bf16) fullShare d) ∗ (∃ r, prngReg c r)) := by
  unfold Pipeline.ΦA; rw [scopedRest0_eq]; simp only [owns_whole]; try rfl

theorem phiT_eq (c : Dev nD) :
    (Pipeline.ΦT pre0 (tab m).1 c : sProp 𝕄)
      = owns (c : Thread nD τ) (Memref.whole main_arg4 : Memref sig .tc .smem S512 .i32) fullShare.right (tbl m) := by
  show (bigSep (Finset.univ : Finset (Fin 1)) _ : sProp 𝕄) = _
  rw [show (Finset.univ : Finset (Fin 1)) = {0} from rfl, bigSep_singleton, owns_whole]
  try rfl

/-- Every entry of the table is at most eight. -/
def Small : Prop := ∀ x : S512.Idx, ∃ n : Fin 9, tbl m x = BitVec.ofNat 32 n.val

theorem chk1_of : ∀ n : Fin 9, k0_chk1 (BitVec.ofNat 32 n.val) := by
  intro n; fin_cases n <;> exact of_decide_eq_true (by decide +kernel)

theorem chk_word (h : Small m) (i : grid0.Coords) : k0_chk1 (word i (tbl m)) := by
  unfold word
  obtain ⟨n, hn⟩ := h ((Rect.unit (s := S512) (k0_off1 i) S1.size (k0_off1_inb i)).toLoadRect.idx (Shape.Idx.first (by show 0 < S1.numel; decide)))
  rw [hn]; exact chk1_of n

/-- The relation the result's block is held to, at every window. -/
abbrev RlAll (Rl : Fin (cfgA m).N → Vec F S1x2048x1024 .f32 → Prop) :
    (w : Fin (cfgA m).W) → Fin (cfgA m).N → (((cfgA m).win w).block.Idx → Elt F ((cfgA m).win w).elt) → Prop :=
  fun w => match w with
    | ⟨7, _⟩ => fun t X => Rl t X
    | _ => fun _ _ => True

/-- Every point's body runs and leaves a result's block that the relation holds of. -/
theorem body_rel (hS : Small m) (c : Dev nD) (Rl : Fin (cfgA m).N → Vec F S1x2048x1024 .f32 → Prop)
    (hFO : ∀ (t : Fin (cfgA m).N) (arg3 : Memref sig .tc .smem S512 .i32) (harg3 : arg3.IsWhole) (arg4 : Memref sig .tc .vmem S1x2048x1024 .bf16) (harg4 : arg4.IsWhole) (arg5 : Memref sig .tc .vmem S1x1x1x2048 .f32) (harg5 : arg5.IsWhole) (arg6 : Memref sig .tc .vmem S1x2048x16 .f32) (harg6 : arg6.IsWhole) (arg7 : Memref sig .tc .vmem S1x2048x16 .f32) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x2048x1024 .f32) (harg11 : arg11.IsWhole) (arg12 : Memref sig .tc .vmem S1152x1024 .bf16) (harg12 : arg12.IsWhole)
      (Y : Vec F S1x2048x1024 .f32) (x12 : Vec F S1152x1024 .bf16) (nb : Elt F .i32) (hw : word (grid0.coords t) (tbl m) = nb) (hchk : k0_chk1 nb) (h2 : k0_cond2 nb = 1#1) (h1 : Scalar.cmpi .ne (Scalar.extui (Scalar.cmpi .eq (BitVec.ofNat 32 ((grid0.coords t) 2).val) 0#32)) 0#32 = 1#1)
      (f : Buf (Elt F) (arg11.view.loc (c : Thread nD τ))), Rl t (arg11.view.read (Elt F) (arg11.view.writes (Elt F) f
        (runFO c (grid0.coords t) arg3 harg3 arg4 harg4 arg5 harg5 arg6 harg6 arg7 harg7 arg8 harg8 arg9 harg9 arg10 harg10 arg11 harg11 arg12 harg12 (tbl m) (iblk m c 0 t) (iblk m c 1 t) (iblk m c 2 t) (iblk m c 3 t) (iblk m c 4 t) (iblk m c 5 t) (iblk m c 6 t) x12 nb hw hchk h2 h1).1)))
    (hFE : ∀ (t : Fin (cfgA m).N) (arg3 : Memref sig .tc .smem S512 .i32) (harg3 : arg3.IsWhole) (arg4 : Memref sig .tc .vmem S1x2048x1024 .bf16) (harg4 : arg4.IsWhole) (arg5 : Memref sig .tc .vmem S1x1x1x2048 .f32) (harg5 : arg5.IsWhole) (arg6 : Memref sig .tc .vmem S1x2048x16 .f32) (harg6 : arg6.IsWhole) (arg7 : Memref sig .tc .vmem S1x2048x16 .f32) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x2048x1024 .f32) (harg11 : arg11.IsWhole) (arg12 : Memref sig .tc .vmem S1152x1024 .bf16) (harg12 : arg12.IsWhole)
      (Y : Vec F S1x2048x1024 .f32) (x12 : Vec F S1152x1024 .bf16) (nb : Elt F .i32) (hw : word (grid0.coords t) (tbl m) = nb) (hchk : k0_chk1 nb) (h2 : ¬ k0_cond2 nb = 1#1) (h1 : Scalar.cmpi .ne (Scalar.extui (Scalar.cmpi .eq (BitVec.ofNat 32 ((grid0.coords t) 2).val) 0#32)) 0#32 = 1#1)
      (f : Buf (Elt F) (arg11.view.loc (c : Thread nD τ))), Rl t (arg11.view.read (Elt F) (arg11.view.writes (Elt F) f
        (runFE c (grid0.coords t) arg3 harg3 arg4 harg4 arg5 harg5 arg6 harg6 arg7 harg7 arg8 harg8 arg9 harg9 arg10 harg10 arg11 harg11 arg12 harg12 (tbl m) (iblk m c 0 t) (iblk m c 1 t) (iblk m c 2 t) (iblk m c 3 t) (iblk m c 4 t) (iblk m c 5 t) (iblk m c 6 t) x12 nb hw hchk h2 h1).1)))
    (hLO : ∀ (t : Fin (cfgA m).N) (arg3 : Memref sig .tc .smem S512 .i32) (harg3 : arg3.IsWhole) (arg4 : Memref sig .tc .vmem S1x2048x1024 .bf16) (harg4 : arg4.IsWhole) (arg5 : Memref sig .tc .vmem S1x1x1x2048 .f32) (harg5 : arg5.IsWhole) (arg6 : Memref sig .tc .vmem S1x2048x16 .f32) (harg6 : arg6.IsWhole) (arg7 : Memref sig .tc .vmem S1x2048x16 .f32) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x2048x1024 .f32) (harg11 : arg11.IsWhole) (arg12 : Memref sig .tc .vmem S1152x1024 .bf16) (harg12 : arg12.IsWhole)
      (Y : Vec F S1x2048x1024 .f32) (x12 : Vec F S1152x1024 .bf16) (nb : Elt F .i32) (hw : word (grid0.coords t) (tbl m) = nb) (hchk : k0_chk1 nb) (h2 : k0_cond2 nb = 1#1) (h1 : ¬ Scalar.cmpi .ne (Scalar.extui (Scalar.cmpi .eq (BitVec.ofNat 32 ((grid0.coords t) 2).val) 0#32)) 0#32 = 1#1)
      (hY : ((dat m c).toRRel marked (RlAll m Rl)).Finds 7 t Y), Rl t (arg11.view.read (Elt F) (arg11.view.writes (Elt F) (harg11.unread Y)
        (runLO c (grid0.coords t) arg3 harg3 arg4 harg4 arg5 harg5 arg6 harg6 arg7 harg7 arg8 harg8 arg9 harg9 arg10 harg10 arg11 harg11 arg12 harg12 (tbl m) (iblk m c 0 t) (iblk m c 1 t) (iblk m c 2 t) (iblk m c 3 t) (iblk m c 4 t) (iblk m c 5 t) (iblk m c 6 t) Y x12 nb hw hchk h2 h1).1)))
    (hLE : ∀ (t : Fin (cfgA m).N) (arg3 : Memref sig .tc .smem S512 .i32) (harg3 : arg3.IsWhole) (arg4 : Memref sig .tc .vmem S1x2048x1024 .bf16) (harg4 : arg4.IsWhole) (arg5 : Memref sig .tc .vmem S1x1x1x2048 .f32) (harg5 : arg5.IsWhole) (arg6 : Memref sig .tc .vmem S1x2048x16 .f32) (harg6 : arg6.IsWhole) (arg7 : Memref sig .tc .vmem S1x2048x16 .f32) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x2048x1024 .f32) (harg11 : arg11.IsWhole) (arg12 : Memref sig .tc .vmem S1152x1024 .bf16) (harg12 : arg12.IsWhole)
      (Y : Vec F S1x2048x1024 .f32) (x12 : Vec F S1152x1024 .bf16) (nb : Elt F .i32) (hw : word (grid0.coords t) (tbl m) = nb) (hchk : k0_chk1 nb) (h2 : ¬ k0_cond2 nb = 1#1) (h1 : ¬ Scalar.cmpi .ne (Scalar.extui (Scalar.cmpi .eq (BitVec.ofNat 32 ((grid0.coords t) 2).val) 0#32)) 0#32 = 1#1)
      (hY : ((dat m c).toRRel marked (RlAll m Rl)).Finds 7 t Y), Rl t (arg11.view.read (Elt F) (arg11.view.writes (Elt F) (harg11.unread Y)
        (runLE c (grid0.coords t) arg3 harg3 arg4 harg4 arg5 harg5 arg6 harg6 arg7 harg7 arg8 harg8 arg9 harg9 arg10 harg10 arg11 harg11 arg12 harg12 (tbl m) (iblk m c 0 t) (iblk m c 1 t) (iblk m c 2 t) (iblk m c 3 t) (iblk m c 4 t) (iblk m c 5 t) (iblk m c 6 t) Y x12 nb hw hchk h2 h1).1))) :
    BodyObligationRel (dat m c) (defs₀ (F := F)) Variants.none () Set.univ marked (RlAll m Rl) := fun t => by
  rw [bigSep_W0, bigSep_W0, defs₀_row]
  refine triple_restated (P := iprop((Pipeline.ΦA spec0 c ∗ Pipeline.ΦT pre0 (tab m).1 c) ∗ (dat m c).owesAt () t.castSucc
      ∗ (∃ d, owns (c : Thread nD τ) (ms0 m t) fullShare ((dat m c).before 0 t d))
      ∗ (∃ d, owns (c : Thread nD τ) (ms1 m t) fullShare ((dat m c).before 1 t d))
      ∗ (∃ d, owns (c : Thread nD τ) (ms2 m t) fullShare ((dat m c).before 2 t d))
      ∗ (∃ d, owns (c : Thread nD τ) (ms3 m t) fullShare ((dat m c).before 3 t d))
      ∗ (∃ d, owns (c : Thread nD τ) (ms4 m t) fullShare ((dat m c).before 4 t d))
      ∗ (∃ d, owns (c : Thread nD τ) (ms5 m t) fullShare ((dat m c).before 5 t d))
      ∗ (∃ d, owns (c : Thread nD τ) (ms6 m t) fullShare ((dat m c).before 6 t d))
      ∗ (∃ Y, ⌜((dat m c).toRRel marked (RlAll m Rl)).Finds 7 t Y⌝ ∗ owns (c : Thread nD τ) (ms7 m t) fullShare Y)))
    (W := wp frame (wpE (defs₀ (F := F)) Variants.none c none) Set.univ (bodyAt m t))
    (Q := fun _ => iprop((Pipeline.ΦA spec0 c ∗ Pipeline.ΦT pre0 (tab m).1 c) ∗ (dat m c).owesAt () t.castSucc
      ∗ owns (c : Thread nD τ) (ms0 m t) fullShare ((dat m c).after 0 t)
      ∗ owns (c : Thread nD τ) (ms1 m t) fullShare ((dat m c).after 1 t)
      ∗ owns (c : Thread nD τ) (ms2 m t) fullShare ((dat m c).after 2 t)
      ∗ owns (c : Thread nD τ) (ms3 m t) fullShare ((dat m c).after 3 t)
      ∗ owns (c : Thread nD τ) (ms4 m t) fullShare ((dat m c).after 4 t)
      ∗ owns (c : Thread nD τ) (ms5 m t) fullShare ((dat m c).after 5 t)
      ∗ owns (c : Thread nD τ) (ms6 m t) fullShare ((dat m c).after 6 t)
      ∗ (∃ X, ⌜Rl t X⌝ ∗ owns (c : Thread nD τ) (ms7 m t) fullShare X))) ?_ rfl .rfl (fun _ => .rfl)
  simp only [before_0, before_1, before_2, before_3, before_4, before_5, before_6]
  rw [after_0, after_1, after_2, after_3, after_4, after_5, after_6, phiA_eq, phiT_eq]
  iintro ⟨⟨⟨⟨%x12, HS⟩, Hg⟩, HT⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  have hchk := chk_word m hS (grid0.coords t)
  by_cases h1 : Scalar.cmpi .ne (Scalar.extui (Scalar.cmpi .eq (BitVec.ofNat 32 ((grid0.coords t) 2).val) 0#32)) 0#32 = 1#1 <;> by_cases h2 : k0_cond2 (word (grid0.coords t) (tbl m)) = 1#1
  · iapply ((runFO c (grid0.coords t) (Memref.whole main_arg4) (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (Memref.whole cc0_scratch0) (Memref.isWhole_whole _) (tbl m) (iblk m c 0 t) (iblk m c 1 t) (iblk m c 2 t) (iblk m c 3 t) (iblk m c 4 t) (iblk m c 5 t) (iblk m c 6 t) x12 _ rfl hchk h2 h1).2 Set.univ _)
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨HT, H0, H1, H2, H3, H4, H5, H6, ⟨%f, H7⟩, HS⟩
    isplitl [HS Hg HT]
    · isplitl [HS Hg]
      · isplitl [HS]; · iexact HS
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr
    swap
    · unfold owns; iexists _; isplitr
      swap; · iexact H7
      ipureintro; rfl
    ipureintro
    exact hFO t (Memref.whole main_arg4) (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (Memref.whole cc0_scratch0) (Memref.isWhole_whole _) Y  x12 _ rfl hchk h2 h1 f
  · iapply ((runFE c (grid0.coords t) (Memref.whole main_arg4) (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (Memref.whole cc0_scratch0) (Memref.isWhole_whole _) (tbl m) (iblk m c 0 t) (iblk m c 1 t) (iblk m c 2 t) (iblk m c 3 t) (iblk m c 4 t) (iblk m c 5 t) (iblk m c 6 t) x12 _ rfl hchk h2 h1).2 Set.univ _)
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨HT, H0, H1, H2, H3, H4, H5, H6, ⟨%f, H7⟩, HS⟩
    isplitl [HS Hg HT]
    · isplitl [HS Hg]
      · isplitl [HS]; · iexact HS
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr
    swap
    · unfold owns; iexists _; isplitr
      swap; · iexact H7
      ipureintro; rfl
    ipureintro
    exact hFE t (Memref.whole main_arg4) (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (Memref.whole cc0_scratch0) (Memref.isWhole_whole _) Y  x12 _ rfl hchk h2 h1 f
  · iapply ((runLO c (grid0.coords t) (Memref.whole main_arg4) (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (Memref.whole cc0_scratch0) (Memref.isWhole_whole _) (tbl m) (iblk m c 0 t) (iblk m c 1 t) (iblk m c 2 t) (iblk m c 3 t) (iblk m c 4 t) (iblk m c 5 t) (iblk m c 6 t) Y x12 _ rfl hchk h2 h1).2 Set.univ _)
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨HT, H0, H1, H2, H3, H4, H5, H6, H7, HS⟩
    isplitl [HS Hg HT]
    · isplitl [HS Hg]
      · isplitl [HS]; · iexact HS
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr
    swap
    · unfold owns; iexists _; isplitr
      swap; · iexact H7
      ipureintro; rfl
    ipureintro
    exact hLO t (Memref.whole main_arg4) (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (Memref.whole cc0_scratch0) (Memref.isWhole_whole _) Y  x12 _ rfl hchk h2 h1 hY
  · iapply ((runLE c (grid0.coords t) (Memref.whole main_arg4) (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (Memref.whole cc0_scratch0) (Memref.isWhole_whole _) (tbl m) (iblk m c 0 t) (iblk m c 1 t) (iblk m c 2 t) (iblk m c 3 t) (iblk m c 4 t) (iblk m c 5 t) (iblk m c 6 t) Y x12 _ rfl hchk h2 h1).2 Set.univ _)
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨HT, H0, H1, H2, H3, H4, H5, H6, H7, HS⟩
    isplitl [HS Hg HT]
    · isplitl [HS Hg]
      · isplitl [HS]; · iexact HS
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr
    swap
    · unfold owns; iexists _; isplitr
      swap; · iexact H7
      ipureintro; rfl
    ipureintro
    exact hLE t (Memref.whole main_arg4) (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (Memref.whole cc0_scratch0) (Memref.isWhole_whole _) Y  x12 _ rfl hchk h2 h1 hY

/-- The call runs from a table whose entries are at most eight; the result's array is then written with blocks the relation holds of. -/
theorem run_rel (hS : Small m) (Rl : Dev nD → Fin (cfgA m).N → Vec F S1x2048x1024 .f32 → Prop)
    (hb : ∀ c, BodyObligationRel (dat m c) (defs₀ (F := F)) Variants.none () Set.univ marked (RlAll m (Rl c))) :
    θ_run defs (onTc (τ := τ) (main (F := F))) ⟨m, fun _ => 0, ρ⟩
      (fun r => Pipeline.RDat.FramePost (cfgA m) (fun c => (dat m c).toRRel marked (RlAll m (Rl c))) (V m) r ∧ r.2.sem = fun _ => 0) :=
  Pipeline.RDat.θ_run_frameP (Q' := _) (pcfgs (F := F)) (fun _ => tab m) 0 launch0 defs₀ Variants.none
    (fun c => (dat m c).toRRel marked (RlAll m (Rl c))) m ρ main
    (hbody := fun c => (hb c).toRRel) (hshare := fun c => (dat m c).share_full fun _ => rfl) (howed := fun _ _ => rfl)
    (V := V m) (hmain := Pipeline.hmainP_region (pcfgs (F := F)) 0 defs₀ Variants.none m main fun c => (main_chain c).trans rfl)
    (hA := fun c w => A_eq m c w)
    (hpf := fun c k => by obtain rfl : c = 0 := Subsingleton.elim _ _; rfl)
    (hΦ := fun _ _ => rfl)

/-- The arguments the windows read end unchanged. -/
theorem args_of (Rl : Dev nD → Fin (cfgA m).N → Vec F S1x2048x1024 .f32 → Prop) {r : PUnit × MemSt nD τ sig (Elt F)}
    (h : Pipeline.RDat.FramePost (cfgA m) (fun c => (dat m c).toRRel marked (RlAll m (Rl c))) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨h.arr_in c 0 rfl, h.arr_in c 1 rfl, h.arr_in c 2 rfl, h.arr_in c 3 rfl,
    (h c).2 main_arg4 (Pipeline.mem_restRefs_of main_arg4 (by decide) (show ∀ w : Fin 8, (spec0 w).arr.view.ref ≠ main_arg4 from by decide)),
    h.arr_in c 4 rfl, h.arr_in c 5 rfl, h.arr_in c 6 rfl⟩

/-- The frame: from a table whose entries are at most eight the call runs and its arguments end unchanged. -/
theorem frame (hS : Small m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => args_of m (fun _ _ _ => True) h.1 c, h.2⟩)
    (run_rel m ρ hS (fun _ _ _ => True) fun c => body_rel m hS c (fun _ _ => True)
      (fun _ => by intros; trivial) (fun _ => by intros; trivial) (fun _ => by intros; trivial) (fun _ => by intros; trivial))

end Cert.Kernel3Ideal.Moe

end
-- ==== Proof.MoePay.lean ====
/-
  What one trip of each loop of the expert layer writes, over the extended reals. A trip of the first loop fills 128 slots:
  each slot gathers the token whose rank is the slot and goes through the expert's gated unit. A trip of the second loop adds
  to every token of the block its gate times the 256 slots it may be found in.
-/
module

public import proofs.«01_k».proof.Proof.Gen.Kernel3Ideal.Loops
public import Idealize.ShloMosaic.Lib.Tactic
public import Idealize.ShloMosaic.Lib.WritesUnit
public import Idealize.ShloMosaic.Lib.VecWindow
public import proofs.«01_k».proof.Proof.RowMax

@[expose] public section

set_option maxRecDepth 16384
set_option maxHeartbeats 4000000
noncomputable section
namespace Cert.Kernel3Ideal.Moe

open Cert.Kernel3Ideal Cert.Kernel3Ideal.Gen Idealize.ShloMosaic Idealize.ShloMosaic.TcCoe Idealize.ShloMosaic.Tactic Idealize.SL.Sem

theorem trips1 (n : Fin 9) : (k0_t1_loop (BitVec.ofNat 32 n.val)).trips = n.val := by
  revert n; decide

theorem trips2 (n : Fin 9) : (k0_t2_loop (BitVec.ofNat 32 n.val)).trips = 0 := by
  revert n; decide

theorem trips3 (n : Fin 9) : (k0_t3_loop (BitVec.ofNat 32 n.val)).trips = (n.val + 1) / 2 := by
  revert n; decide

theorem trips4 (n : Fin 9) : (k0_t4_loop (BitVec.ofNat 32 n.val)).trips = 0 := by
  revert n; decide

/-- A slot number as an extended real. -/
def slotE (s : ℕ) : EReal := ((((s : ℤ) : ℝ)) : EReal)

theorem slotE_inj {a b : ℕ} (h : slotE a = slotE b) : a = b := by
  have h2 := EReal.coe_injective h
  exact_mod_cast h2

theorem sitofp_small (s : ℕ) (h : s < 4096) : FloatOps.sitofp (F := Ideal) .f32 (BitVec.ofNat 32 s) = slotE s := by
  have e : (BitVec.ofNat 32 s).toInt = (s : ℤ) := by
    rw [BitVec.toInt_eq_toNat_of_lt]
    · rw [BitVec.toNat_ofNat, Nat.mod_eq_of_lt (by omega)]
    · rw [BitVec.toNat_ofNat, Nat.mod_eq_of_lt (by omega)]; omega
  show (((((BitVec.ofNat 32 s).toInt : ℤ) : ℝ)) : EReal) = slotE s
  rw [e]; rfl

theorem iv_eq (k : ℕ) : Scf.iv 0#32 1#32 k = BitVec.ofNat 32 k := by
  simp [Scf.iv]

theorem bits1 (k a : ℕ) (hk : k < 9) (ha : a < 128) :
    IntOp.addi (Scalar.muli (Scf.iv 0#32 1#32 k) 128#32) (BitVec.ofNat 32 a) = BitVec.ofNat 32 (128 * k + a) := by
  rw [iv_eq]
  show BitVec.ofNat 32 k * 128#32 + BitVec.ofNat 32 a = _
  apply BitVec.eq_of_toNat_eq
  simp only [BitVec.toNat_add, BitVec.toNat_mul, BitVec.toNat_ofNat]
  omega

theorem bits3 (k a : ℕ) (hk : k < 9) (ha : a < 256) :
    IntOp.addi (Scalar.muli (Scalar.muli (Scf.iv 0#32 1#32 k) 2#32) 128#32) (BitVec.ofNat 32 a)
      = BitVec.ofNat 32 (256 * k + a) := by
  rw [iv_eq]
  show BitVec.ofNat 32 k * 2#32 * 128#32 + BitVec.ofNat 32 a = _
  apply BitVec.eq_of_toNat_eq
  simp only [BitVec.toNat_add, BitVec.toNat_mul, BitVec.toNat_ofNat]
  omega

theorem off1 (k : ℕ) (hk : k < 9) : BitVec.toNat (Scalar.indexCast (Scalar.muli (Scf.iv 0#32 1#32 k) 128#32)) = 128 * k := by
  rw [iv_eq]
  show (BitVec.ofNat 32 k * 128#32).toNat = _
  simp only [BitVec.toNat_mul, BitVec.toNat_ofNat]
  omega

theorem off3 (k : ℕ) (hk : k < 9) :
    BitVec.toNat (Scalar.indexCast (Scalar.muli (Scalar.muli (Scf.iv 0#32 1#32 k) 2#32) 128#32)) = 256 * k := by
  rw [iv_eq]
  show (BitVec.ofNat 32 k * 2#32 * 128#32).toNat = _
  simp only [BitVec.toNat_mul, BitVec.toNat_ofNat]
  omega

/-- The product of a row with a column of an expert's matrix. -/
def hid (xr : Fin 1024 → EReal) (w : Vec Ideal S1x1024x1024 .bf16) (f : Fin 1024) : EReal := ∑ k : Fin 1024, xr k * w (ix3 0 k f)

/-- The gated unit of a row. -/
def ffn (xr : Fin 1024 → EReal) (wg wu wd : Vec Ideal S1x1024x1024 .bf16) (d : Fin 1024) : EReal :=
  ∑ f : Fin 1024, (Ideal.div (hid xr wg f) (1 + Ideal.exp (0 - hid xr wg f)) * hid xr wu f) * wd (ix3 0 f d)

/-- What the gather puts into the slot of value `s`. -/
def xrow (x5 : Vec Ideal S1x1x1x2048 .f32) (x4 : Vec Ideal S1x2048x1024 .bf16) (s : EReal) (k : Fin 1024) : EReal :=
  ∑ t : Fin 2048, (if x5 (ix4 0 0 0 t) = s then 1 else 0) * x4 (ix3 0 t k)

theorem pay4_eq (v8 : Elt Ideal .i32) (x5 : Vec Ideal S1x1x1x2048 .f32) (k : Fin (k0_t1_loop v8).trips) (hk : k.val < 9)
    (x4 : Vec Ideal S1x2048x1024 .bf16) (wg wu wd : Vec Ideal S1x1024x1024 .bf16) (a : Fin 128) (d : Fin 1024) :
    k0_pay20 (k0_pay4 (F := Ideal) v8 (k0_pay19 x5) 0#32 1#32 k x4 wg wu wd) (ix2 a d)
      = ffn (xrow x5 x4 (slotE (128 * k.val + a.val))) wg wu wd d := by
  pointwise [k0_pay20, k0_pay4, k0_pay19]
  rw [bits1 k.val a.val hk a.isLt, sitofp_small _ (by omega)]
  rfl

theorem lane_sum (l : Fin 16 → BitVec 1) (e : Fin 16) (hl : ∀ x, l x = if x = e then 1#1 else 0#1) (v : Fin 16 → EReal) :
    ∑ x : Fin 16, Scalar.select (l x) (v x) 0 = v e := by
  rw [Finset.sum_eq_single e]
  · rw [hl, if_pos rfl]; rfl
  · intro b _ hb; rw [hl, if_neg hb]; rfl
  · intro h; exact absurd (Finset.mem_univ _) h

/-- A token's block row after one trip: what was there and the gate times the slot picked by its rank. -/
def scat (r g : EReal) (k : ℕ) (y : Fin 256 → EReal) : EReal :=
  g * ∑ x : Fin 256, (if r = slotE (256 * k + x.val) then 1 else 0) * y x

section
variable (v8 : Elt Ideal .i32) (v29 v30 : IVec S1x16 32) (e : Fin 16)
  (hl : ∀ x : Fin 16, IntOp.cmpi CmpIPredicate.eq (v29 (ix2 0 x)) (v30 (ix2 0 x)) = if x = e then 1#1 else 0#1)
  (k : Fin (k0_t3_loop v8).trips) (hk : k.val < 9) (v63 : Vec Ideal S256x1024 .bf16) (v64 v72 : Vec Ideal S1x512x16 .f32)
  (v87 : Vec Ideal S1x512x1024 .f32) (a : Fin 512) (d : Fin 1024)
include hl hk

theorem pay8_eq : k0_pay8 (k0_pay7 (F := Ideal) v8 (k0_pay1 v29 v30) 0#32 1#32 k v63 v64 v72 v87) (ix3 0 a d) = v87 (ix3 0 a d) + scat (v64 (ix3 0 a e)) (v72 (ix3 0 a e)) k.val (fun x => v63 (ix2 x d)) := by
  pointwise [k0_pay8, k0_pay7, k0_pay6, k0_pay1]
  rw [lane_sum _ e hl (fun x => v72 (ix3 0 a x)), lane_sum _ e hl (fun x => v64 (ix3 0 a x))]
  unfold scat
  congr 2
  refine Finset.sum_congr rfl fun x _ => ?_
  rw [bits3 k.val x.val hk x.isLt, sitofp_small _ (by omega)]

theorem pay9_eq : k0_pay9 (F := Ideal) (k0_pay1 v29 v30) (k0_pay6 v8 0#32 1#32 k) v63 v64 v72 v87 (ix3 0 a d) = v87 (ix3 0 a d) + scat (v64 (ix3 0 a e)) (v72 (ix3 0 a e)) k.val (fun x => v63 (ix2 x d)) := by
  pointwise [k0_pay9, k0_pay6, k0_pay1]
  rw [lane_sum _ e hl (fun x => v72 (ix3 0 a x)), lane_sum _ e hl (fun x => v64 (ix3 0 a x))]
  unfold scat
  congr 2
  refine Finset.sum_congr rfl fun x _ => ?_
  rw [bits3 k.val x.val hk x.isLt, sitofp_small _ (by omega)]

theorem pay10_eq : k0_pay10 (F := Ideal) (k0_pay1 v29 v30) (k0_pay6 v8 0#32 1#32 k) v63 v64 v72 v87 (ix3 0 a d) = v87 (ix3 0 a d) + scat (v64 (ix3 0 a e)) (v72 (ix3 0 a e)) k.val (fun x => v63 (ix2 x d)) := by
  pointwise [k0_pay10, k0_pay6, k0_pay1]
  rw [lane_sum _ e hl (fun x => v72 (ix3 0 a x)), lane_sum _ e hl (fun x => v64 (ix3 0 a x))]
  unfold scat
  congr 2
  refine Finset.sum_congr rfl fun x _ => ?_
  rw [bits3 k.val x.val hk x.isLt, sitofp_small _ (by omega)]

theorem pay2_eq : k0_pay2 (F := Ideal) v29 v30 (k0_pay6 v8 0#32 1#32 k) v63 (k0_pay11 (k0_pay1 v29 v30) v64) v72 v87 (ix3 0 a d) = v87 (ix3 0 a d) + scat (v64 (ix3 0 a e)) (v72 (ix3 0 a e)) k.val (fun x => v63 (ix2 x d)) := by
  pointwise [k0_pay2, k0_pay11, k0_pay6, k0_pay1]
  rw [lane_sum _ e hl (fun x => v72 (ix3 0 a x)), lane_sum _ e hl (fun x => v64 (ix3 0 a x))]
  unfold scat
  congr 2
  refine Finset.sum_congr rfl fun x _ => ?_
  rw [bits3 k.val x.val hk x.isLt, sitofp_small _ (by omega)]
end

end Cert.Kernel3Ideal.Moe
end
-- ==== Proof.MoeLoop.lean ====
/-
  What the two loops of the expert layer leave behind, over the extended reals: after `k` trips of the first loop the first
  `128 * k` rows of the scratch hold the gated units of the gathered slots; after `k` trips of the second loop every token of
  the block has had `k` slot blocks added to it.
-/
module

public import proofs.«01_k».proof.Proof.MoePay

@[expose] public section

set_option maxRecDepth 16384
set_option maxHeartbeats 4000000
noncomputable section
namespace Cert.Kernel3Ideal.Moe

open Cert.Kernel3Ideal Cert.Kernel3Ideal.Gen Idealize.ShloMosaic Idealize.ShloMosaic.TcCoe Idealize.ShloMosaic.Tactic Idealize.SL.Sem

/-- A row of the scratch by its number. -/
def srow (X : Vec Ideal S1152x1024 .bf16) (s : ℕ) (d : Fin 1024) : EReal := X (ix2 ⟨s % 1152, Nat.mod_lt _ (by decide)⟩ d)

section
variable (𝒱 : Variants) (c : Dev nD) (bd : Option 𝒱.V) (i : grid0.Coords) (arg3 : Memref sig .tc .smem S512 .i32) (harg3 : arg3.IsWhole) (arg4 : Memref sig .tc .vmem S1x2048x1024 .bf16) (harg4 : arg4.IsWhole) (arg5 : Memref sig .tc .vmem S1x1x1x2048 .f32) (harg5 : arg5.IsWhole) (arg6 : Memref sig .tc .vmem S1x2048x16 .f32) (harg6 : arg6.IsWhole) (arg7 : Memref sig .tc .vmem S1x2048x16 .f32) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x2048x1024 .f32) (harg11 : arg11.IsWhole) (arg12 : Memref sig .tc .vmem S1152x1024 .bf16) (harg12 : arg12.IsWhole)

theorem readAt_rows (m : Memref sig .tc .vmem S1152x1024 .bf16) (X : BufTy.Contents (Elt Ideal) m.view.ty) (off : Fin 2 → ℕ) (o : ℕ) (ho : off = ![o, 0])
    (inb : ∀ a, off a + S256x1024.size a ≤ S1152x1024.size a) (x : Fin 256) (d : Fin 1024) :
    View.readAt (Elt Ideal) m.view (Rect.unit (s := S1152x1024) off S256x1024.size inb).toLoadRect X (ix2 x d)
      = srow (View.read (Elt Ideal) m.view X) (o + x.val) d := by
  subst ho
  have h0 : o + 256 ≤ 1152 := inb 0
  refine congrArg (View.read (Elt Ideal) m.view X) (funext fun a => Fin.ext ?_)
  match a with
  | ⟨0, _⟩ =>
    show o + 1 * x.val = (o + x.val) % 1152
    rw [Nat.mod_eq_of_lt (by omega)]; omega
  | ⟨1, _⟩ => show 0 + 1 * d.val = d.val; omega

theorem readAt_blk16 (m : Memref sig .tc .vmem S1x2048x16 .f32) (X : BufTy.Contents (Elt Ideal) m.view.ty) (o : ℕ)
    (inb : ∀ a, (![0, o, 0] : Fin 3 → ℕ) a + S1x512x16.size a ≤ S1x2048x16.size a) (a : Fin 512) (e : Fin 16) (r : Fin 2048)
    (hr : r.val = o + a.val) :
    View.readAt (Elt Ideal) m.view (Rect.unit (s := S1x2048x16) ![0, o, 0] S1x512x16.size inb).toLoadRect X (ix3 0 a e)
      = View.read (Elt Ideal) m.view X (ix3 0 r e) := by
  refine congrArg (View.read (Elt Ideal) m.view X) (funext fun a => Fin.ext ?_)
  match a with
  | ⟨0, _⟩ => rfl
  | ⟨1, _⟩ => show o + 1 * _ = r.val; rw [hr, Nat.one_mul]; rfl
  | ⟨2, _⟩ => show 0 + 1 * e.val = e.val; omega

theorem readAt_blk1024 (m : Memref sig .tc .vmem S1x2048x1024 .f32) (X : BufTy.Contents (Elt Ideal) m.view.ty) (o : ℕ)
    (inb : ∀ a, (![0, o, 0] : Fin 3 → ℕ) a + S1x512x1024.size a ≤ S1x2048x1024.size a) (a : Fin 512) (e : Fin 1024) (r : Fin 2048)
    (hr : r.val = o + a.val) :
    View.readAt (Elt Ideal) m.view (Rect.unit (s := S1x2048x1024) ![0, o, 0] S1x512x1024.size inb).toLoadRect X (ix3 0 a e)
      = View.read (Elt Ideal) m.view X (ix3 0 r e) := by
  refine congrArg (View.read (Elt Ideal) m.view X) (funext fun a => Fin.ext ?_)
  match a with
  | ⟨0, _⟩ => rfl
  | ⟨1, _⟩ => show o + 1 * _ = r.val; rw [hr, Nat.one_mul]; rfl
  | ⟨2, _⟩ => show 0 + 1 * e.val = e.val; omega

section
variable (v8 : Elt Ideal .i32) (k0_hw1 : k0_chk1 v8) (x5 : Vec Ideal S1x1x1x2048 .f32) (X4 : BufTy.Contents (Elt Ideal) arg4.view.ty) (X8 : BufTy.Contents (Elt Ideal) arg8.view.ty) (X9 : BufTy.Contents (Elt Ideal) arg9.view.ty) (X10 : BufTy.Contents (Elt Ideal) arg10.view.ty)

theorem trip1_read (k : Fin (k0_t1_loop v8).trips) (hk : k.val < 9) (f : BufTy.Contents (Elt Ideal) arg12.view.ty) (r : Fin 1152) (d : Fin 1024) :
    View.read (Elt Ideal) arg12.view (arg12.view.writes (Elt Ideal) f (tripL_k0_t1 (F := Ideal) 𝒱 c bd i arg3 harg3 arg4 harg4 arg5 harg5 arg6 harg6 arg7 harg7 arg8 harg8 arg9 harg9 arg10 harg10 arg11 harg11 arg12 harg12 v8 k0_hw1 x5 X4 X8 X9 X10 k)) (ix2 r d)
      = if 128 * k.val ≤ r.val ∧ r.val < 128 * k.val + 128 then
          ffn (xrow x5 (View.read (Elt Ideal) arg4.view X4) (slotE r.val)) (View.read (Elt Ideal) arg8.view X8) (View.read (Elt Ideal) arg9.view X9)
            (View.read (Elt Ideal) arg10.view X10) d
        else View.read (Elt Ideal) arg12.view f (ix2 r d) := by
  unfold tripL_k0_t1 trip_k0_t1
  dsimp only
  sl_unfold_words
  split
  · rename_i h
    refine (View.read_writes_cons_unit_of_mem arg12.view f _ _ _ (ix2 r d) (ix2 (⟨r.val - 128 * k.val, by omega⟩ : Fin 128) d)
      (congrArg (fun o : ℕ => (![o, 0] : Fin 2 → ℕ)) (off1 k.val hk)) (Fin.forall_fin_two.mpr ⟨?_, ?_⟩)).trans ?_
    · show r.val = 128 * k.val + (r.val - 128 * k.val); omega
    · show d.val = 0 + d.val; omega
    · rw [View.readAt_full, View.readAt_full, View.readAt_full, View.readAt_full]
      refine (pay4_eq v8 x5 k hk _ _ _ _ _ d).trans ?_
      congr 3
      show 128 * k.val + (r.val - 128 * k.val) = r.val
      omega
  · rename_i h
    refine (View.read_writes_cons_unit_of_not_mem arg12.view f _ _ _ (ix2 r d)
      (congrArg (fun o : ℕ => (![o, 0] : Fin 2 → ℕ)) (off1 k.val hk)) 0 ?_).trans rfl
    show r.val < 128 * k.val ∨ 128 * k.val + 128 ≤ r.val
    omega

theorem loop1_read (hT : (k0_t1_loop v8).trips ≤ 8) (G : BufTy.Contents (Elt Ideal) arg12.view.ty) (r : Fin 1152) (d : Fin 1024) : ∀ k : ℕ, k ≤ (k0_t1_loop v8).trips →
    View.read (Elt Ideal) arg12.view (arg12.view.writes (Elt Ideal) G (pb_k0_t1 (F := Ideal) 𝒱 c bd i arg3 harg3 arg4 harg4 arg5 harg5 arg6 harg6 arg7 harg7 arg8 harg8 arg9 harg9 arg10 harg10 arg11 harg11 arg12 harg12 v8 k0_hw1 x5 X4 X8 X9 X10 k)) (ix2 r d)
      = if r.val < 128 * k then
          ffn (xrow x5 (View.read (Elt Ideal) arg4.view X4) (slotE r.val)) (View.read (Elt Ideal) arg8.view X8) (View.read (Elt Ideal) arg9.view X9)
            (View.read (Elt Ideal) arg10.view X10) d
        else View.read (Elt Ideal) arg12.view G (ix2 r d)
  | 0, _ => by rw [if_neg (by omega)]; rfl
  | k + 1, h => by
    have ih := loop1_read hT G r d k (Nat.le_of_succ_le h)
    rw [pb_k0_t1_succ (F := Ideal) 𝒱 c bd i arg3 harg3 arg4 harg4 arg5 harg5 arg6 harg6 arg7 harg7 arg8 harg8 arg9 harg9 arg10 harg10 arg11 harg11 arg12 harg12 v8 k0_hw1 x5 X4 X8 X9 X10 ⟨k, h⟩, View.writes_append,
      trip1_read 𝒱 c bd i arg3 harg3 arg4 harg4 arg5 harg5 arg6 harg6 arg7 harg7 arg8 harg8 arg9 harg9 arg10 harg10 arg11 harg11 arg12 harg12 v8 k0_hw1 x5 X4 X8 X9 X10 ⟨k, h⟩ (by show k < 9; omega), ih]
    dsimp only
    by_cases h1 : r.val < 128 * k
    · rw [if_neg (by omega), if_pos h1, if_pos (by omega)]
    · by_cases h2 : r.val < 128 * k + 128
      · rw [if_pos ⟨by omega, h2⟩, if_pos (by omega)]
      · rw [if_neg (by omega), if_neg h1, if_neg (by omega)]
end

section
variable (v8 : Elt Ideal .i32) (k0_hw1 : k0_chk1 v8) (v29 v30 : IVec S1x16 32) (e : Fin 16)
  (hl : ∀ x : Fin 16, IntOp.cmpi CmpIPredicate.eq (v29 (ix2 0 x)) (v30 (ix2 0 x)) = if x = e then 1#1 else 0#1)
  (X6 : BufTy.Contents (Elt Ideal) arg6.view.ty) (X7 : BufTy.Contents (Elt Ideal) arg7.view.ty) (X12 : BufTy.Contents (Elt Ideal) arg12.view.ty)
include hl

theorem trip3_read (k : Fin (k0_t3_loop v8).trips) (hk : k.val < 4) (f : BufTy.Contents (Elt Ideal) arg11.view.ty) (r : Fin 2048) (d : Fin 1024) :
    View.read (Elt Ideal) arg11.view (arg11.view.writes (Elt Ideal) f (tripL_k0_t3 (F := Ideal) 𝒱 c bd i arg3 harg3 arg4 harg4 arg5 harg5 arg6 harg6 arg7 harg7 arg8 harg8 arg9 harg9 arg10 harg10 arg11 harg11 arg12 harg12 v8 k0_hw1 v29 v30 X6 X7 X12 k f)) (ix3 0 r d)
      = View.read (Elt Ideal) arg11.view f (ix3 0 r d)
        + scat (View.read (Elt Ideal) arg6.view X6 (ix3 0 r e)) (View.read (Elt Ideal) arg7.view X7 (ix3 0 r e)) k.val
            (fun x => srow (View.read (Elt Ideal) arg12.view X12) (256 * k.val + x.val) d) := by
  have ho := congrArg (fun o : ℕ => (![o, 0] : Fin 2 → ℕ)) (off3 k.val (by omega))
  unfold tripL_k0_t3 trip_k0_t3
  dsimp only
  sl_unfold_words
  rcases (show 1536 ≤ r.val ∨ (1024 ≤ r.val ∧ r.val < 1536) ∨ (512 ≤ r.val ∧ r.val < 1024) ∨ r.val < 512 by omega) with h | h | h | h
  · have hb := r.isLt
    refine (View.read_writes_cons_unit_of_mem arg11.view f _ _ _ (ix3 0 r d) (ix3 0 (⟨r.val - 1536, by omega⟩ : Fin 512) d) rfl ?_).trans ?_
    · intro a
      match a with
      | ⟨0, _⟩ => rfl
      | ⟨1, _⟩ => show r.val = 1536 + (r.val - 1536); omega
      | ⟨2, _⟩ => show d.val = 0 + d.val; omega
    · have hr : r.val = 1536 + (⟨r.val - 1536, by omega⟩ : Fin 512).val := by show r.val = 1536 + (r.val - 1536); omega
      refine (pay2_eq v8 v29 v30 e hl k (by omega) _ _ _ _ (⟨r.val - 1536, by omega⟩ : Fin 512) d).trans ?_
      rw [readAt_blk1024 arg11 f 1536 _ _ d r hr]
      refine congrArg (fun z => View.read (Elt Ideal) arg11.view f (ix3 0 r d) + z) ?_
      rw [show ∀ inb, View.readAt (Elt Ideal) arg6.view (Rect.unit (s := S1x2048x16) ![0, 1536, 0] S1x512x16.size inb).toLoadRect X6 (ix3 0 (⟨r.val - 1536, by omega⟩ : Fin 512) e) = _ from fun inb => readAt_blk16 arg6 X6 1536 inb _ e r hr]
      rw [show ∀ inb, View.readAt (Elt Ideal) arg7.view (Rect.unit (s := S1x2048x16) ![0, 1536, 0] S1x512x16.size inb).toLoadRect X7 (ix3 0 (⟨r.val - 1536, by omega⟩ : Fin 512) e) = _ from fun inb => readAt_blk16 arg7 X7 1536 inb _ e r hr]
      exact congrArg (scat _ _ k.val) (funext fun x => readAt_rows arg12 X12 _ _ ho _ x d)
  · have hb := r.isLt
    refine (View.read_writes_cons_unit_of_not_mem arg11.view f _ _ _ (ix3 0 r d) rfl 1 (.inl (show r.val < 1536 by omega))).trans ?_
    refine (View.read_writes_cons_unit_of_mem arg11.view f _ _ _ (ix3 0 r d) (ix3 0 (⟨r.val - 1024, by omega⟩ : Fin 512) d) rfl ?_).trans ?_
    · intro a
      match a with
      | ⟨0, _⟩ => rfl
      | ⟨1, _⟩ => show r.val = 1024 + (r.val - 1024); omega
      | ⟨2, _⟩ => show d.val = 0 + d.val; omega
    · have hr : r.val = 1024 + (⟨r.val - 1024, by omega⟩ : Fin 512).val := by show r.val = 1024 + (r.val - 1024); omega
      refine (pay10_eq v8 v29 v30 e hl k (by omega) _ _ _ _ (⟨r.val - 1024, by omega⟩ : Fin 512) d).trans ?_
      rw [readAt_blk1024 arg11 f 1024 _ _ d r hr]
      refine congrArg (fun z => View.read (Elt Ideal) arg11.view f (ix3 0 r d) + z) ?_
      rw [show ∀ inb, View.readAt (Elt Ideal) arg6.view (Rect.unit (s := S1x2048x16) ![0, 1024, 0] S1x512x16.size inb).toLoadRect X6 (ix3 0 (⟨r.val - 1024, by omega⟩ : Fin 512) e) = _ from fun inb => readAt_blk16 arg6 X6 1024 inb _ e r hr]
      rw [show ∀ inb, View.readAt (Elt Ideal) arg7.view (Rect.unit (s := S1x2048x16) ![0, 1024, 0] S1x512x16.size inb).toLoadRect X7 (ix3 0 (⟨r.val - 1024, by omega⟩ : Fin 512) e) = _ from fun inb => readAt_blk16 arg7 X7 1024 inb _ e r hr]
      exact congrArg (scat _ _ k.val) (funext fun x => readAt_rows arg12 X12 _ _ ho _ x d)
  · have hb := r.isLt
    refine (View.read_writes_cons_unit_of_not_mem arg11.view f _ _ _ (ix3 0 r d) rfl 1 (.inl (show r.val < 1536 by omega))).trans ?_
    refine (View.read_writes_cons_unit_of_not_mem arg11.view f _ _ _ (ix3 0 r d) rfl 1 (.inl (show r.val < 1024 by omega))).trans ?_
    refine (View.read_writes_cons_unit_of_mem arg11.view f _ _ _ (ix3 0 r d) (ix3 0 (⟨r.val - 512, by omega⟩ : Fin 512) d) rfl ?_).trans ?_
    · intro a
      match a with
      | ⟨0, _⟩ => rfl
      | ⟨1, _⟩ => show r.val = 512 + (r.val - 512); omega
      | ⟨2, _⟩ => show d.val = 0 + d.val; omega
    · have hr : r.val = 512 + (⟨r.val - 512, by omega⟩ : Fin 512).val := by show r.val = 512 + (r.val - 512); omega
      refine (pay9_eq v8 v29 v30 e hl k (by omega) _ _ _ _ (⟨r.val - 512, by omega⟩ : Fin 512) d).trans ?_
      rw [readAt_blk1024 arg11 f 512 _ _ d r hr]
      refine congrArg (fun z => View.read (Elt Ideal) arg11.view f (ix3 0 r d) + z) ?_
      rw [show ∀ inb, View.readAt (Elt Ideal) arg6.view (Rect.unit (s := S1x2048x16) ![0, 512, 0] S1x512x16.size inb).toLoadRect X6 (ix3 0 (⟨r.val - 512, by omega⟩ : Fin 512) e) = _ from fun inb => readAt_blk16 arg6 X6 512 inb _ e r hr]
      rw [show ∀ inb, View.readAt (Elt Ideal) arg7.view (Rect.unit (s := S1x2048x16) ![0, 512, 0] S1x512x16.size inb).toLoadRect X7 (ix3 0 (⟨r.val - 512, by omega⟩ : Fin 512) e) = _ from fun inb => readAt_blk16 arg7 X7 512 inb _ e r hr]
      exact congrArg (scat _ _ k.val) (funext fun x => readAt_rows arg12 X12 _ _ ho _ x d)
  · have hb := r.isLt
    refine (View.read_writes_cons_unit_of_not_mem arg11.view f _ _ _ (ix3 0 r d) rfl 1 (.inl (show r.val < 1536 by omega))).trans ?_
    refine (View.read_writes_cons_unit_of_not_mem arg11.view f _ _ _ (ix3 0 r d) rfl 1 (.inl (show r.val < 1024 by omega))).trans ?_
    refine (View.read_writes_cons_unit_of_not_mem arg11.view f _ _ _ (ix3 0 r d) rfl 1 (.inl (show r.val < 512 by omega))).trans ?_
    refine (View.read_writes_cons_unit_of_mem arg11.view f _ _ _ (ix3 0 r d) (ix3 0 (⟨r.val - 0, by omega⟩ : Fin 512) d) rfl ?_).trans ?_
    · intro a
      match a with
      | ⟨0, _⟩ => rfl
      | ⟨1, _⟩ => show r.val = 0 + (r.val - 0); omega
      | ⟨2, _⟩ => show d.val = 0 + d.val; omega
    · have hr : r.val = 0 + (⟨r.val - 0, by omega⟩ : Fin 512).val := by show r.val = 0 + (r.val - 0); omega
      refine (pay8_eq v8 v29 v30 e hl k (by omega) _ _ _ _ (⟨r.val - 0, by omega⟩ : Fin 512) d).trans ?_
      rw [readAt_blk1024 arg11 f 0 _ _ d r hr]
      refine congrArg (fun z => View.read (Elt Ideal) arg11.view f (ix3 0 r d) + z) ?_
      rw [show ∀ inb, View.readAt (Elt Ideal) arg6.view (Rect.unit (s := S1x2048x16) ![0, 0, 0] S1x512x16.size inb).toLoadRect X6 (ix3 0 (⟨r.val - 0, by omega⟩ : Fin 512) e) = _ from fun inb => readAt_blk16 arg6 X6 0 inb _ e r hr]
      rw [show ∀ inb, View.readAt (Elt Ideal) arg7.view (Rect.unit (s := S1x2048x16) ![0, 0, 0] S1x512x16.size inb).toLoadRect X7 (ix3 0 (⟨r.val - 0, by omega⟩ : Fin 512) e) = _ from fun inb => readAt_blk16 arg7 X7 0 inb _ e r hr]
      exact congrArg (scat _ _ k.val) (funext fun x => readAt_rows arg12 X12 _ _ ho _ x d)

theorem loop3_read (hT : (k0_t3_loop v8).trips ≤ 4) (G : BufTy.Contents (Elt Ideal) arg11.view.ty) (r : Fin 2048) (d : Fin 1024) : ∀ k : ℕ, k ≤ (k0_t3_loop v8).trips →
    View.read (Elt Ideal) arg11.view (arg11.view.writes (Elt Ideal) G (pb_k0_t3 (F := Ideal) 𝒱 c bd i arg3 harg3 arg4 harg4 arg5 harg5 arg6 harg6 arg7 harg7 arg8 harg8 arg9 harg9 arg10 harg10 arg11 harg11 arg12 harg12 v8 k0_hw1 v29 v30 X6 X7 X12 G k)) (ix3 0 r d)
      = View.read (Elt Ideal) arg11.view G (ix3 0 r d)
        + ∑ j ∈ Finset.range k, scat (View.read (Elt Ideal) arg6.view X6 (ix3 0 r e)) (View.read (Elt Ideal) arg7.view X7 (ix3 0 r e)) j
            (fun x => srow (View.read (Elt Ideal) arg12.view X12) (256 * j + x.val) d)
  | 0, _ => by rw [Finset.range_zero, Finset.sum_empty, add_zero]; rfl
  | k + 1, h => by
    have ih := loop3_read hT G r d k (Nat.le_of_succ_le h)
    rw [pb_k0_t3_succ (F := Ideal) 𝒱 c bd i arg3 harg3 arg4 harg4 arg5 harg5 arg6 harg6 arg7 harg7 arg8 harg8 arg9 harg9 arg10 harg10 arg11 harg11 arg12 harg12 v8 k0_hw1 v29 v30 X6 X7 X12 G ⟨k, h⟩, View.writes_append,
      trip3_read 𝒱 c bd i arg3 harg3 arg4 harg4 arg5 harg5 arg6 harg6 arg7 harg7 arg8 harg8 arg9 harg9 arg10 harg10 arg11 harg11 arg12 harg12 v8 k0_hw1 v29 v30 e hl X6 X7 X12 ⟨k, h⟩ (by show k < 4; omega), ih, Finset.sum_range_succ, add_assoc]
end
end

end Cert.Kernel3Ideal.Moe
end
-- ==== Proof.MoeSlots.lean ====
/-
  What one grid point of the expert layer adds to its block of the result, over the extended reals: `contrib`, on top of what
  the block held, or of zero at the first expert.
-/
module

public import proofs.«01_k».proof.Proof.MoeLoop
public import proofs.«01_k».proof.Proof.MoeRunIdeal

@[expose] public section

set_option maxRecDepth 16384
set_option maxHeartbeats 4000000
noncomputable section
namespace Cert.Kernel3Ideal.Moe

open Cert.Kernel3Ideal Cert.Kernel3Ideal.Gen Idealize.ShloMosaic Idealize.ShloMosaic.TcCoe Idealize.ShloMosaic.Tactic Idealize.SL.Sem

/-- Row `s` of the scratch once the slots are filled: the gated unit of the slot below `128 * n`, zero above. -/
def yrow (n : ℕ) (x4 : Vec Ideal S1x2048x1024 .bf16) (x5 : Vec Ideal S1x1x1x2048 .f32) (x8 x9 x10 : Vec Ideal S1x1024x1024 .bf16)
    (s : ℕ) (d : Fin 1024) : EReal :=
  if s < 128 * n then ffn (xrow x5 x4 (slotE s)) x8 x9 x10 d else 0

/-- What one expert adds to row `r`, column `d` of the block. -/
def contrib (n : ℕ) (e : Fin 16) (x4 : Vec Ideal S1x2048x1024 .bf16) (x5 : Vec Ideal S1x1x1x2048 .f32) (x6 x7 : Vec Ideal S1x2048x16 .f32)
    (x8 x9 x10 : Vec Ideal S1x1024x1024 .bf16) (r : Fin 2048) (d : Fin 1024) : EReal :=
  ∑ j ∈ Finset.range ((n + 1) / 2), scat (x6 (ix3 0 r e)) (x7 (ix3 0 r e)) j (fun x => yrow n x4 x5 x8 x9 x10 (256 * j + x.val) d)

theorem odd_of (n : Fin 9) : k0_cond2 (BitVec.ofNat 32 n.val) = 1#1 → n.val % 2 = 1 := by
  revert n; decide

theorem even_of (n : Fin 9) : ¬ k0_cond2 (BitVec.ofNat 32 n.val) = 1#1 → n.val % 2 = 0 := by
  revert n; decide

theorem off4_eq (n : Fin 9) : k0_off4 (BitVec.ofNat 32 n.val) = ![128 * n.val, 0] := by
  revert n; decide

theorem pay22_eq (a : Fin 128) (d : Fin 1024) : k0_pay22 (F := Ideal) (ix2 a d) = (0 : EReal) := by
  pointwise [k0_pay22]

theorem pay18_eq (r : Fin 2048) (d : Fin 1024) : k0_pay18 (F := Ideal) (ix3 0 r d) = (0 : EReal) := by
  pointwise [k0_pay18]

theorem lane_bits (x e : Fin 16) : IntOp.cmpi CmpIPredicate.eq (BitVec.ofNat 32 x.val) (BitVec.ofNat 32 e.val) = if x = e then 1#1 else 0#1 := by
  revert x e; decide

theorem lane_eq (i : grid0.Coords) (e : Fin 16) (he : (i 2).val = e.val) (x : Fin 16) :
    IntOp.cmpi CmpIPredicate.eq ((iota Kind.tc S1x16 32 [1] iota_S1x16_d1_w32 : IVec S1x16 32) (ix2 0 x)) (k0_pay23 i (ix2 0 x)) = if x = e then 1#1 else 0#1 := by
  rw [← lane_bits x e, ← he]
  pointwise [k0_pay23]

section
variable (c : Dev nD) (i : grid0.Coords) (arg3 : Memref sig .tc .smem S512 .i32) (harg3 : arg3.IsWhole) (arg4 : Memref sig .tc .vmem S1x2048x1024 .bf16) (harg4 : arg4.IsWhole) (arg5 : Memref sig .tc .vmem S1x1x1x2048 .f32) (harg5 : arg5.IsWhole) (arg6 : Memref sig .tc .vmem S1x2048x16 .f32) (harg6 : arg6.IsWhole) (arg7 : Memref sig .tc .vmem S1x2048x16 .f32) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x2048x1024 .f32) (harg11 : arg11.IsWhole) (arg12 : Memref sig .tc .vmem S1152x1024 .bf16) (harg12 : arg12.IsWhole) (x3 : Vec Ideal S512 .i32) (x4 : Vec Ideal S1x2048x1024 .bf16) (x5 : Vec Ideal S1x1x1x2048 .f32) (x6 : Vec Ideal S1x2048x16 .f32) (x7 : Vec Ideal S1x2048x16 .f32) (x8 : Vec Ideal S1x1024x1024 .bf16) (x9 : Vec Ideal S1x1024x1024 .bf16) (x10 : Vec Ideal S1x1024x1024 .bf16) (x12 : Vec Ideal S1152x1024 .bf16)
  (n : Fin 9) (nb : Elt Ideal .i32) (hn : nb = BitVec.ofNat 32 n.val) (hchk : k0_chk1 nb) (e : Fin 16) (he : (i 2).val = e.val)
include hn

theorem x12_even (h2 : ¬ k0_cond2 nb = 1#1) (v15 : BitVec 32) (s : ℕ) (hs : s < 256 * ((n.val + 1) / 2)) (d : Fin 1024) :
    srow (View.read (Elt Ideal) arg12.view (arg12.view.writes (Elt Ideal) (harg12.unread x12) (pb_k0_t2 (F := Ideal) Variants.none c none i arg3 harg3 arg4 harg4 arg5 harg5 arg6 harg6 arg7 harg7 arg8 harg8 arg9 harg9 arg10 harg10 arg11 harg11 arg12 harg12 nb hchk x5 v15 (harg4.unread x4) (harg8.unread x8) (harg9.unread x9) (harg10.unread x10) (k0_t2_loop nb).trips ++ pb_k0_t1 (F := Ideal) Variants.none c none i arg3 harg3 arg4 harg4 arg5 harg5 arg6 harg6 arg7 harg7 arg8 harg8 arg9 harg9 arg10 harg10 arg11 harg11 arg12 harg12 nb hchk x5 (harg4.unread x4) (harg8.unread x8) (harg9.unread x9) (harg10.unread x10) (k0_t1_loop nb).trips))) s d = yrow n.val x4 x5 x8 x9 x10 s d := by
  have hb := n.isLt
  have e2 : (k0_t2_loop nb).trips = 0 := by subst hn; exact trips2 n
  have e1 : (k0_t1_loop nb).trips = n.val := by subst hn; exact trips1 n
  have ev : n.val % 2 = 0 := by subst hn; exact even_of n h2
  unfold srow
  rw [View.writes_append, e2]
  refine (loop1_read Variants.none c none i arg3 harg3 arg4 harg4 arg5 harg5 arg6 harg6 arg7 harg7 arg8 harg8 arg9 harg9 arg10 harg10 arg11 harg11 arg12 harg12 nb hchk x5 (harg4.unread x4) (harg8.unread x8) (harg9.unread x9) (harg10.unread x10) (by omega)
    (harg12.unread x12) _ d (k0_t1_loop nb).trips le_rfl).trans ?_
  rw [e1, harg4.read_unread, harg8.read_unread, harg9.read_unread, harg10.read_unread]
  unfold yrow
  have em : s % 1152 = s := Nat.mod_eq_of_lt (by omega)
  rw [if_pos (show s % 1152 < 128 * n.val by omega), if_pos (show s < 128 * n.val by omega)]
  dsimp only
  rw [em]

theorem x12_odd (h2 : k0_cond2 nb = 1#1) (v15 : BitVec 32) (inb : ∀ a, k0_off4 nb a + S128x1024.size a ≤ S1152x1024.size a) (s : ℕ) (hs : s < 256 * ((n.val + 1) / 2)) (d : Fin 1024) :
    srow (View.read (Elt Ideal) arg12.view (arg12.view.writes (Elt Ideal) (harg12.unread x12) ((⟨Rect.unit (s := S1152x1024) (k0_off4 nb) S128x1024.size inb, k0_pay22 (F := Ideal)⟩ : View.Piece (Elt Ideal) S1152x1024 .bf16) :: pb_k0_t2 (F := Ideal) Variants.none c none i arg3 harg3 arg4 harg4 arg5 harg5 arg6 harg6 arg7 harg7 arg8 harg8 arg9 harg9 arg10 harg10 arg11 harg11 arg12 harg12 nb hchk x5 v15 (harg4.unread x4) (harg8.unread x8) (harg9.unread x9) (harg10.unread x10) (k0_t2_loop nb).trips ++ pb_k0_t1 (F := Ideal) Variants.none c none i arg3 harg3 arg4 harg4 arg5 harg5 arg6 harg6 arg7 harg7 arg8 harg8 arg9 harg9 arg10 harg10 arg11 harg11 arg12 harg12 nb hchk x5 (harg4.unread x4) (harg8.unread x8) (harg9.unread x9) (harg10.unread x10) (k0_t1_loop nb).trips))) s d = yrow n.val x4 x5 x8 x9 x10 s d := by
  have hb := n.isLt
  have e2 : (k0_t2_loop nb).trips = 0 := by subst hn; exact trips2 n
  have e1 : (k0_t1_loop nb).trips = n.val := by subst hn; exact trips1 n
  have ev : n.val % 2 = 1 := by subst hn; exact odd_of n h2
  have eo : k0_off4 nb = ![128 * n.val, 0] := by subst hn; exact off4_eq n
  have em : s % 1152 = s := Nat.mod_eq_of_lt (by omega)
  unfold srow yrow
  by_cases hlt : s < 128 * n.val
  · refine (View.read_writes_cons_unit_of_not_mem arg12.view _ _ _ (pb_k0_t2 (F := Ideal) Variants.none c none i arg3 harg3 arg4 harg4 arg5 harg5 arg6 harg6 arg7 harg7 arg8 harg8 arg9 harg9 arg10 harg10 arg11 harg11 arg12 harg12 nb hchk x5 v15 (harg4.unread x4) (harg8.unread x8) (harg9.unread x9) (harg10.unread x10) (k0_t2_loop nb).trips ++ pb_k0_t1 (F := Ideal) Variants.none c none i arg3 harg3 arg4 harg4 arg5 harg5 arg6 harg6 arg7 harg7 arg8 harg8 arg9 harg9 arg10 harg10 arg11 harg11 arg12 harg12 nb hchk x5 (harg4.unread x4) (harg8.unread x8) (harg9.unread x9) (harg10.unread x10) (k0_t1_loop nb).trips) _ eo 0 (.inl ?_)).trans ?_
    · show s % 1152 < 128 * n.val
      omega
    · rw [View.writes_append, e2]
      refine (loop1_read Variants.none c none i arg3 harg3 arg4 harg4 arg5 harg5 arg6 harg6 arg7 harg7 arg8 harg8 arg9 harg9 arg10 harg10 arg11 harg11 arg12 harg12 nb hchk x5 (harg4.unread x4) (harg8.unread x8) (harg9.unread x9) (harg10.unread x10) (by omega)
        (harg12.unread x12) _ d (k0_t1_loop nb).trips le_rfl).trans ?_
      rw [e1, harg4.read_unread, harg8.read_unread, harg9.read_unread, harg10.read_unread]
      rw [if_pos (show s % 1152 < 128 * n.val by omega), if_pos hlt]
      dsimp only
      rw [em]
  · rw [if_neg hlt]
    refine (View.read_writes_cons_unit_of_mem arg12.view _ _ _ _ _ (ix2 (⟨s - 128 * n.val, by omega⟩ : Fin 128) d) eo
      (Fin.forall_fin_two.mpr ⟨?_, ?_⟩)).trans (pay22_eq _ d)
    · show s % 1152 = 128 * n.val + (s - 128 * n.val); omega
    · show d.val = 0 + d.val; omega

include he
theorem core_read (v54 : BitVec 32) (G4 : BufTy.Contents (Elt Ideal) arg11.view.ty) (X12 : BufTy.Contents (Elt Ideal) arg12.view.ty) (G : BufTy.Contents (Elt Ideal) arg11.view.ty)
    (hX : ∀ s, s < 256 * ((n.val + 1) / 2) → ∀ d, srow (View.read (Elt Ideal) arg12.view X12) s d = yrow n.val x4 x5 x8 x9 x10 s d) (r : Fin 2048) (d : Fin 1024) :
    View.read (Elt Ideal) arg11.view (arg11.view.writes (Elt Ideal) G (pb_k0_t4 (F := Ideal) Variants.none c none i arg3 harg3 arg4 harg4 arg5 harg5 arg6 harg6 arg7 harg7 arg8 harg8 arg9 harg9 arg10 harg10 arg11 harg11 arg12 harg12 nb hchk (iota Kind.tc S1x16 32 [1] iota_S1x16_d1_w32) (k0_pay23 i) v54 (harg6.unread x6) (harg7.unread x7) X12 G4 (k0_t4_loop nb).trips ++ pb_k0_t3 (F := Ideal) Variants.none c none i arg3 harg3 arg4 harg4 arg5 harg5 arg6 harg6 arg7 harg7 arg8 harg8 arg9 harg9 arg10 harg10 arg11 harg11 arg12 harg12 nb hchk (iota Kind.tc S1x16 32 [1] iota_S1x16_d1_w32) (k0_pay23 i) (harg6.unread x6) (harg7.unread x7) X12 G (k0_t3_loop nb).trips)) (ix3 0 r d)
      = View.read (Elt Ideal) arg11.view G (ix3 0 r d) + contrib n.val e x4 x5 x6 x7 x8 x9 x10 r d := by
  have hb := n.isLt
  have e4 : (k0_t4_loop nb).trips = 0 := by subst hn; exact trips4 n
  have e3 : (k0_t3_loop nb).trips = (n.val + 1) / 2 := by subst hn; exact trips3 n
  rw [View.writes_append, e4]
  refine (loop3_read Variants.none c none i arg3 harg3 arg4 harg4 arg5 harg5 arg6 harg6 arg7 harg7 arg8 harg8 arg9 harg9 arg10 harg10 arg11 harg11 arg12 harg12 nb hchk (iota Kind.tc S1x16 32 [1] iota_S1x16_d1_w32) (k0_pay23 i) e (lane_eq i e he) (harg6.unread x6) (harg7.unread x7) X12 (by omega)
    G r d (k0_t3_loop nb).trips le_rfl).trans ?_
  rw [e3, harg6.read_unread, harg7.read_unread]
  unfold contrib
  refine congrArg (fun z => View.read (Elt Ideal) arg11.view G (ix3 0 r d) + z) (Finset.sum_congr rfl fun j hj => ?_)
  have hj := Finset.mem_range.mp hj
  exact congrArg (scat _ _ j) (funext fun x => hX _ (by have := x.isLt; omega) d)
end

end Cert.Kernel3Ideal.Moe
end
-- ==== Proof.MoeBody.lean ====
/-
  What one grid point of the expert layer adds to its block of the result, over the extended reals: `contrib`, on top of what
  the block held, or of zero at the first expert.
-/
module

public import proofs.«01_k».proof.Proof.MoeSlots
public import proofs.«01_k».proof.Proof.MoeRunIdeal

@[expose] public section

set_option maxRecDepth 16384
set_option maxHeartbeats 4000000
noncomputable section
namespace Cert.Kernel3Ideal.Moe

open Cert.Kernel3Ideal Cert.Kernel3Ideal.Gen Idealize.ShloMosaic Idealize.ShloMosaic.TcCoe Idealize.ShloMosaic.Tactic Idealize.SL.Sem

/-- What is read after pieces over a whole-block piece does not depend on what the buffer held before. -/
theorem rebase {sg : RefSig} {κ : Kind} {sp : Space} (v : View sg κ sp S1x2048x1024 .f32) (f g : v.ty.Contents (Elt Ideal))
    (L : List (View.Piece (Elt Ideal) S1x2048x1024 .f32)) (inb : ∀ a, (![0, 0, 0] : Fin 3 → ℕ) a + (![1, 2048, 1024] : Fin 3 → ℕ) a ≤ S1x2048x1024.size a)
    (w : Vec Ideal S1x2048x1024 .f32) (y : S1x2048x1024.Idx) :
    View.read (Elt Ideal) v (v.writes (Elt Ideal) f (L ++ [⟨Rect.unit ![0, 0, 0] ![1, 2048, 1024] inb, w⟩])) y
      = View.read (Elt Ideal) v (v.writes (Elt Ideal) g (L ++ [⟨Rect.unit ![0, 0, 0] ![1, 2048, 1024] inb, w⟩])) y :=
  View.read_writes_apply_eq v f v g y _ ⟨_, List.mem_append_right _ (List.mem_singleton_self _), by
    rw [Rect.set_eq_univ_of_whole _ (Fin.forall_fin_succ.mpr ⟨⟨rfl, rfl, rfl⟩, Fin.forall_fin_succ.mpr ⟨⟨rfl, rfl, rfl⟩, Fin.forall_fin_succ.mpr ⟨⟨rfl, rfl, rfl⟩, fun a => a.elim0⟩⟩⟩)]; exact Finset.mem_univ _⟩

section
variable (c : Dev nD) (i : grid0.Coords) (arg3 : Memref sig .tc .smem S512 .i32) (harg3 : arg3.IsWhole) (arg4 : Memref sig .tc .vmem S1x2048x1024 .bf16) (harg4 : arg4.IsWhole) (arg5 : Memref sig .tc .vmem S1x1x1x2048 .f32) (harg5 : arg5.IsWhole) (arg6 : Memref sig .tc .vmem S1x2048x16 .f32) (harg6 : arg6.IsWhole) (arg7 : Memref sig .tc .vmem S1x2048x16 .f32) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x2048x1024 .f32) (harg11 : arg11.IsWhole) (arg12 : Memref sig .tc .vmem S1152x1024 .bf16) (harg12 : arg12.IsWhole) (x3 : Vec Ideal S512 .i32) (x4 : Vec Ideal S1x2048x1024 .bf16) (x5 : Vec Ideal S1x1x1x2048 .f32) (x6 : Vec Ideal S1x2048x16 .f32) (x7 : Vec Ideal S1x2048x16 .f32) (x8 : Vec Ideal S1x1024x1024 .bf16) (x9 : Vec Ideal S1x1024x1024 .bf16) (x10 : Vec Ideal S1x1024x1024 .bf16) (x12 : Vec Ideal S1152x1024 .bf16)
  (n : Fin 9) (nb : Elt Ideal .i32) (hn : nb = BitVec.ofNat 32 n.val) (hchk : k0_chk1 nb) (e : Fin 16) (he : (i 2).val = e.val)
include hn he

theorem valFO (hw : word i x3 = nb) (h2 : k0_cond2 nb = 1#1)
    (h1 : Scalar.cmpi .ne (Scalar.extui (Scalar.cmpi .eq (BitVec.ofNat 32 (i 2).val) 0#32)) 0#32 = 1#1) (f : BufTy.Contents (Elt Ideal) arg11.view.ty) (r : Fin 2048) (d : Fin 1024) :
    View.read (Elt Ideal) arg11.view (arg11.view.writes (Elt Ideal) f (runFO (F := Ideal) c i arg3 harg3 arg4 harg4 arg5 harg5 arg6 harg6 arg7 harg7 arg8 harg8 arg9 harg9 arg10 harg10 arg11 harg11 arg12 harg12 x3 x4 x5 x6 x7 x8 x9 x10 x12 nb hw hchk h2 h1).1) (ix3 0 r d)
      = 0 + contrib n.val e x4 x5 x6 x7 x8 x9 x10 r d := by
  unfold runFO
  dsimp only
  rw [View.readAt_full, harg5.read_unread]
  rw [← List.append_assoc, rebase arg11.view f arg11.view.junk, View.writes_append]
  refine (core_read c i arg3 harg3 arg4 harg4 arg5 harg5 arg6 harg6 arg7 harg7 arg8 harg8 arg9 harg9 arg10 harg10 arg11 harg11 arg12 harg12 x4 x5 x6 x7 x8 x9 x10 n nb hn hchk e he _ _ _ _ (fun s hs d => x12_odd c i arg3 harg3 arg4 harg4 arg5 harg5 arg6 harg6 arg7 harg7 arg8 harg8 arg9 harg9 arg10 harg10 arg11 harg11 arg12 harg12 x4 x5 x8 x9 x10 x12 n nb hn hchk h2 _ _ s hs d) r d).trans ?_
  refine congrArg (fun z => z + contrib n.val e x4 x5 x6 x7 x8 x9 x10 r d) ?_
  rw [View.read_writes_full]
  exact pay18_eq r d

theorem valFE (hw : word i x3 = nb) (h2 : ¬ k0_cond2 nb = 1#1)
    (h1 : Scalar.cmpi .ne (Scalar.extui (Scalar.cmpi .eq (BitVec.ofNat 32 (i 2).val) 0#32)) 0#32 = 1#1) (f : BufTy.Contents (Elt Ideal) arg11.view.ty) (r : Fin 2048) (d : Fin 1024) :
    View.read (Elt Ideal) arg11.view (arg11.view.writes (Elt Ideal) f (runFE (F := Ideal) c i arg3 harg3 arg4 harg4 arg5 harg5 arg6 harg6 arg7 harg7 arg8 harg8 arg9 harg9 arg10 harg10 arg11 harg11 arg12 harg12 x3 x4 x5 x6 x7 x8 x9 x10 x12 nb hw hchk h2 h1).1) (ix3 0 r d)
      = 0 + contrib n.val e x4 x5 x6 x7 x8 x9 x10 r d := by
  unfold runFE
  dsimp only
  rw [View.readAt_full, harg5.read_unread]
  rw [← List.append_assoc, rebase arg11.view f arg11.view.junk, View.writes_append]
  refine (core_read c i arg3 harg3 arg4 harg4 arg5 harg5 arg6 harg6 arg7 harg7 arg8 harg8 arg9 harg9 arg10 harg10 arg11 harg11 arg12 harg12 x4 x5 x6 x7 x8 x9 x10 n nb hn hchk e he _ _ _ _ (fun s hs d => x12_even c i arg3 harg3 arg4 harg4 arg5 harg5 arg6 harg6 arg7 harg7 arg8 harg8 arg9 harg9 arg10 harg10 arg11 harg11 arg12 harg12 x4 x5 x8 x9 x10 x12 n nb hn hchk h2 _ s hs d) r d).trans ?_
  refine congrArg (fun z => z + contrib n.val e x4 x5 x6 x7 x8 x9 x10 r d) ?_
  rw [View.read_writes_full]
  exact pay18_eq r d

theorem valLO (hw : word i x3 = nb) (Y : Vec Ideal S1x2048x1024 .f32) (h2 : k0_cond2 nb = 1#1)
    (h1 : ¬ Scalar.cmpi .ne (Scalar.extui (Scalar.cmpi .eq (BitVec.ofNat 32 (i 2).val) 0#32)) 0#32 = 1#1) (r : Fin 2048) (d : Fin 1024) :
    View.read (Elt Ideal) arg11.view (arg11.view.writes (Elt Ideal) (harg11.unread Y) (runLO (F := Ideal) c i arg3 harg3 arg4 harg4 arg5 harg5 arg6 harg6 arg7 harg7 arg8 harg8 arg9 harg9 arg10 harg10 arg11 harg11 arg12 harg12 x3 x4 x5 x6 x7 x8 x9 x10 Y x12 nb hw hchk h2 h1).1) (ix3 0 r d)
      = Y (ix3 0 r d) + contrib n.val e x4 x5 x6 x7 x8 x9 x10 r d := by
  unfold runLO
  dsimp only
  rw [View.readAt_full, harg5.read_unread]
  refine (core_read c i arg3 harg3 arg4 harg4 arg5 harg5 arg6 harg6 arg7 harg7 arg8 harg8 arg9 harg9 arg10 harg10 arg11 harg11 arg12 harg12 x4 x5 x6 x7 x8 x9 x10 n nb hn hchk e he _ _ _ _ (fun s hs d => x12_odd c i arg3 harg3 arg4 harg4 arg5 harg5 arg6 harg6 arg7 harg7 arg8 harg8 arg9 harg9 arg10 harg10 arg11 harg11 arg12 harg12 x4 x5 x8 x9 x10 x12 n nb hn hchk h2 _ _ s hs d) r d).trans ?_
  rw [harg11.read_unread]

theorem valLE (hw : word i x3 = nb) (Y : Vec Ideal S1x2048x1024 .f32) (h2 : ¬ k0_cond2 nb = 1#1)
    (h1 : ¬ Scalar.cmpi .ne (Scalar.extui (Scalar.cmpi .eq (BitVec.ofNat 32 (i 2).val) 0#32)) 0#32 = 1#1) (r : Fin 2048) (d : Fin 1024) :
    View.read (Elt Ideal) arg11.view (arg11.view.writes (Elt Ideal) (harg11.unread Y) (runLE (F := Ideal) c i arg3 harg3 arg4 harg4 arg5 harg5 arg6 harg6 arg7 harg7 arg8 harg8 arg9 harg9 arg10 harg10 arg11 harg11 arg12 harg12 x3 x4 x5 x6 x7 x8 x9 x10 Y x12 nb hw hchk h2 h1).1) (ix3 0 r d)
      = Y (ix3 0 r d) + contrib n.val e x4 x5 x6 x7 x8 x9 x10 r d := by
  unfold runLE
  dsimp only
  rw [View.readAt_full, harg5.read_unread]
  refine (core_read c i arg3 harg3 arg4 harg4 arg5 harg5 arg6 harg6 arg7 harg7 arg8 harg8 arg9 harg9 arg10 harg10 arg11 harg11 arg12 harg12 x4 x5 x6 x7 x8 x9 x10 n nb hn hchk e he _ _ _ _ (fun s hs d => x12_even c i arg3 harg3 arg4 harg4 arg5 harg5 arg6 harg6 arg7 harg7 arg8 harg8 arg9 harg9 arg10 harg10 arg11 harg11 arg12 harg12 x4 x5 x8 x9 x10 x12 n nb hn hchk h2 _ s hs d) r d).trans ?_
  rw [harg11.read_unread]
end

end Cert.Kernel3Ideal.Moe
end
-- ==== Proof.Ranks.lean ====
/-
  Ranks: numbers each of which is minus one or one less than how many non-negative numbers there are up to it. The
  non-negative ones are distinct slot numbers.
-/
module

public import proofs.«01_k».proof.Proof.MoePay

@[expose] public section

noncomputable section

namespace Cert.Ranks

open Idealize.ShloMosaic Cert.Kernel3Ideal.Moe

section
variable {N : ℕ} (r : Fin N → EReal)

/-- How many non-negative numbers there are up to `t`. -/
def cnt (t : Fin N) : ℕ := (Finset.univ.filter fun x : Fin N => x ≤ t ∧ 0 ≤ r x).card

theorem cnt_pos (t : Fin N) (h : 0 ≤ r t) : 0 < cnt r t :=
  Finset.card_pos.mpr ⟨t, Finset.mem_filter.mpr ⟨Finset.mem_univ _, le_refl t, h⟩⟩

theorem cnt_lt {t t' : Fin N} (h : t < t') (h' : 0 ≤ r t') : cnt r t < cnt r t' := by
  refine Finset.card_lt_card (Finset.ssubset_iff_of_subset ?_ |>.mpr ⟨t', ?_, ?_⟩)
  · intro x hx
    have hx := (Finset.mem_filter.mp hx).2
    exact Finset.mem_filter.mpr ⟨Finset.mem_univ _, le_trans hx.1 h.le, hx.2⟩
  · exact Finset.mem_filter.mpr ⟨Finset.mem_univ _, le_refl t', h'⟩
  · intro hx
    exact absurd (Finset.mem_filter.mp hx).2.1 (not_le.mpr h)

theorem slotE_nonneg (k : ℕ) : 0 ≤ slotE k := by
  unfold slotE
  exact_mod_cast Nat.zero_le k

theorem cnt_sub (c : ℕ) (h : 0 < c) : ((c : ℕ) : EReal) - 1 = slotE (c - 1) := by
  obtain ⟨k, rfl⟩ := Nat.exists_eq_succ_of_ne_zero (Nat.pos_iff_ne_zero.mp h)
  have e : (((k.succ : ℕ) : EReal) - 1) = ((((k.succ : ℕ) : ℝ) - 1 : ℝ) : EReal) := by
    rw [EReal.coe_sub, EReal.coe_natCast, EReal.coe_one]
  rw [e]
  unfold slotE
  congr 1
  push_cast
  simp

theorem of_ranks (n : ℕ)
    (h1 : ∀ t, r t = if 0 ≤ r t then (∑ x : Fin N, if x ≤ t ∧ 0 ≤ r x then (1 : EReal) else 0) - 1 else -1)
    (h2 : ∀ t, r t < slotE (128 * n)) (t : Fin N) :
    (0 ≤ r t ∧ ∃ k : ℕ, k < 128 * n ∧ r t = slotE k ∧ ∀ t', r t' = slotE k → t' = t)
      ∨ (¬ 0 ≤ r t ∧ ∀ k : ℕ, r t ≠ slotE k) := by
  have hs : ∀ t, 0 ≤ r t → r t = slotE (cnt r t - 1) := fun t ht => by
    have h := h1 t
    rw [if_pos ht, Finset.sum_boole] at h
    rw [h]
    exact cnt_sub _ (cnt_pos r t ht)
  by_cases ht : 0 ≤ r t
  · refine .inl ⟨ht, cnt r t - 1, ?_, hs t ht, fun t' h' => ?_⟩
    · have h := h2 t
      rw [hs t ht] at h
      unfold slotE at h
      exact_mod_cast h
    · have ht' : 0 ≤ r t' := by rw [h']; exact slotE_nonneg _
      have e := slotE_inj ((hs t' ht').symm.trans h')
      have p := cnt_pos r t ht
      have p' := cnt_pos r t' ht'
      rcases lt_trichotomy t' t with h | h | h
      · have := cnt_lt r h ht; omega
      · exact h
      · have := cnt_lt r h ht'; omega
  · exact .inr ⟨ht, fun k hk => ht (by rw [hk]; exact slotE_nonneg k)⟩
end

end Cert.Ranks
end
-- ==== Proof.MoeTerm.lean ====
/-
  What one expert adds to one token: the expert's gated layer of the token's row, times its gate, if the token has a slot
  (`contrib_eq`). The slots are a detour: the token's slot holds the token's own row, and only that slot is read back.
-/
module

public import proofs.«01_k».proof.Proof.MoeSlots
public import proofs.«01_k».proof.Proof.Ranks

@[expose] public section

set_option maxRecDepth 16384

noncomputable section

namespace Cert.Kernel3Ideal.Moe

open Cert.Kernel3Ideal Idealize.ShloMosaic

/-- A slot that one token alone holds has that token's row. -/
theorem xrow_one (x5 : Vec Ideal S1x1x1x2048 .f32) (x4 : Vec Ideal S1x2048x1024 .bf16) (k : ℕ) (r : Fin 2048)
    (hr : x5 (ix4 0 0 0 r) = slotE k) (hu : ∀ t, x5 (ix4 0 0 0 t) = slotE k → t = r) (d : Fin 1024) :
    xrow x5 x4 (slotE k) d = x4 (ix3 0 r d) := by
  unfold xrow
  rw [Finset.sum_eq_single r]
  · rw [if_pos hr, one_mul]
  · intro t _ ht
    rw [if_neg (fun h => ht (hu t h)), zero_mul]
  · intro h; exact absurd (Finset.mem_univ _) h

/-- A block of slots without the token's adds nothing. -/
theorem scat_zero (v g : EReal) (j : ℕ) (y : Fin 256 → EReal) (h : ∀ x : Fin 256, v ≠ slotE (256 * j + x.val)) : scat v g j y = 0 := by
  unfold scat
  rw [Finset.sum_eq_zero (fun x _ => by rw [if_neg (h x), zero_mul]), mul_zero]

/-- The block of slots with the token's adds that slot's row, times the gate. -/
theorem scat_one (g : EReal) (k : ℕ) (y : Fin 256 → EReal) :
    scat (slotE k) g (k / 256) y = g * y ⟨k % 256, Nat.mod_lt _ (by decide)⟩ := by
  unfold scat
  rw [Finset.sum_eq_single (⟨k % 256, Nat.mod_lt _ (by decide)⟩ : Fin 256)]
  · rw [if_pos (by congr 1; show k = 256 * (k / 256) + k % 256; omega), one_mul]
  · intro x _ hx
    rw [if_neg (fun h => hx (Fin.ext (by have := slotE_inj h; have := x.isLt; show x.val = k % 256; omega))), zero_mul]
  · intro h; exact absurd (Finset.mem_univ _) h

theorem contrib_eq (n : Fin 9) (e : Fin 16) (x4 : Vec Ideal S1x2048x1024 .bf16) (x5 : Vec Ideal S1x1x1x2048 .f32) (x6 x7 : Vec Ideal S1x2048x16 .f32)
    (x8 x9 x10 : Vec Ideal S1x1024x1024 .bf16) (r : Fin 2048) (d : Fin 1024) (R : Fin 2048 → EReal)
    (h6 : x6 (ix3 0 r e) = R r) (h5 : ∀ t, x5 (ix4 0 0 0 t) = R t)
    (hR : (0 ≤ R r ∧ ∃ k : ℕ, k < 128 * n.val ∧ R r = slotE k ∧ ∀ t', R t' = slotE k → t' = r) ∨ (¬ 0 ≤ R r ∧ ∀ k : ℕ, R r ≠ slotE k)) :
    contrib n.val e x4 x5 x6 x7 x8 x9 x10 r d = if 0 ≤ R r then ffn (fun k => x4 (ix3 0 r k)) x8 x9 x10 d * x7 (ix3 0 r e) else 0 := by
  unfold contrib
  rw [h6]
  rcases hR with ⟨h0, k, hk, hr, hu⟩ | ⟨h0, hn⟩
  · rw [if_pos h0, hr, Finset.sum_eq_single (k / 256)]
    · rw [scat_one, mul_comm]
      congr 1
      show yrow n.val x4 x5 x8 x9 x10 (256 * (k / 256) + k % 256) d = _
      rw [show 256 * (k / 256) + k % 256 = k from by omega]
      unfold yrow
      rw [if_pos hk]
      congr 1
      exact funext fun q => xrow_one x5 x4 k r ((h5 r).trans hr) (fun t ht => hu t ((h5 t).symm.trans ht)) q
    · intro j _ hj
      refine scat_zero _ _ _ _ fun x h => hj ?_
      have := slotE_inj h
      have := x.isLt
      omega
    · intro h
      exact absurd (Finset.mem_range.mpr (by omega)) h
  · rw [if_neg h0]
    exact Finset.sum_eq_zero fun j _ => scat_zero _ _ _ _ fun x => hn _

end Cert.Kernel3Ideal.Moe
end
-- ==== Proof.MoeValue.lean ====
/-
  The expert layer's result after the run, over the extended reals: at batch `b`, token `t`, column `d` the sum over the
  experts of what each adds to the token (`arr_eq`).
-/
module

public import proofs.«01_k».proof.Proof.MoeFrameIdeal
public import proofs.«01_k».proof.Proof.MoeBody
public import proofs.«01_k».proof.Proof.MoeTerm
public import Idealize.ShloMosaic.Lib.Pipeline.Covers

@[expose] public section

set_option maxRecDepth 16384
set_option maxHeartbeats 1000000

noncomputable section

namespace Cert.Kernel3Ideal.Moe

open Cert.Kernel3Ideal Cert.Kernel3Ideal.Gen Idealize.ShloMosaic Idealize.ShloMosaic.TcCoe Idealize.SL.Sem
open Idealize.ShloMosaic.Pipeline (Dat Cfg Window BodyObligation BodyObligationRel cellOf)

/-- One expert's matrix. -/
def mat (w : FVec Ideal S16x1024x1024 .bf16) (e : Fin 16) : Vec Ideal S1x1024x1024 .bf16 :=
  fun y => w (ix3 e (⟨(y 1).val, (y 1).isLt⟩ : Fin 1024) (⟨(y 2).val, (y 2).isLt⟩ : Fin 1024))

section
variable (a0 : FVec Ideal S8x8192x1024 .bf16) (a2 a3 : FVec Ideal S8x8192x16 .f32) (a5 a6 a7 : FVec Ideal S16x1024x1024 .bf16)

/-- What expert `e` adds to token `t` of batch `b`, in column `d`. -/
def term (b : Fin 8) (t : Fin 8192) (d : Fin 1024) (e : Fin 16) : EReal :=
  if 0 ≤ a2 (ix3 b t e) then ffn (fun k => a0 (ix3 b t k)) (mat a5 e) (mat a6 e) (mat a7 e) d * a3 (ix3 b t e) else 0

/-- The sum over the first `n` experts. -/
def upto (b : Fin 8) (t : Fin 8192) (d : Fin 1024) (n : ℕ) : EReal :=
  ∑ e ∈ Finset.range n, term a0 a2 a3 a5 a6 a7 b t d ⟨e % 16, Nat.mod_lt _ (by decide)⟩

theorem upto_all (b : Fin 8) (t : Fin 8192) (d : Fin 1024) : upto a0 a2 a3 a5 a6 a7 b t d 16 = ∑ e : Fin 16, term a0 a2 a3 a5 a6 a7 b t d e := by
  unfold upto
  rw [Finset.sum_range]
  exact Finset.sum_congr rfl fun e _ => congrArg _ (Fin.ext (Nat.mod_eq_of_lt e.isLt))

theorem upto_step (b : Fin 8) (t : Fin 8192) (d : Fin 1024) (e : Fin 16) :
    upto a0 a2 a3 a5 a6 a7 b t d e.val + term a0 a2 a3 a5 a6 a7 b t d e = upto a0 a2 a3 a5 a6 a7 b t d (e.val + 1) := by
  unfold upto
  rw [Finset.sum_range_succ]
  exact congrArg _ (congrArg _ (Fin.ext (Nat.mod_eq_of_lt e.isLt).symm))

/-- The layer. -/
def res : FVec Ideal S8x8192x1024 .f32 := fun i =>
  upto a0 a2 a3 a5 a6 a7 ⟨(i 0).val, (i 0).isLt⟩ ⟨(i 1).val, (i 1).isLt⟩ ⟨(i 2).val, (i 2).isLt⟩ 16

theorem res_at (i : S8x8192x1024.Idx) (b : Fin 8) (t : Fin 8192) (d : Fin 1024) (h0 : (i 0).val = b.val) (h1 : (i 1).val = t.val)
    (h2 : (i 2).val = d.val) : res a0 a2 a3 a5 a6 a7 i = upto a0 a2 a3 a5 a6 a7 b t d 16 := by
  obtain rfl : b = ⟨(i 0).val, (i 0).isLt⟩ := Fin.ext h0.symm
  obtain rfl : t = ⟨(i 1).val, (i 1).isLt⟩ := Fin.ext h1.symm
  obtain rfl : d = ⟨(i 2).val, (i 2).isLt⟩ := Fin.ext h2.symm
  rfl
end

/-- The windows' block indices at a grid point. -/
theorem maps : ∀ t : Fin grid0.N,
    cc0_transform_0 (grid0.coords t) = ![t.val / 64, t.val / 16 % 4, 0]
    ∧ cc0_transform_1 (grid0.coords t) = ![t.val / 64, t.val % 16, 0, t.val / 16 % 4]
    ∧ cc0_transform_2 (grid0.coords t) = ![t.val / 64, t.val / 16 % 4, 0]
    ∧ cc0_transform_3 (grid0.coords t) = ![t.val / 64, t.val / 16 % 4, 0]
    ∧ cc0_transform_4 (grid0.coords t) = ![t.val % 16, 0, 0]
    ∧ cc0_transform_5 (grid0.coords t) = ![t.val % 16, 0, 0]
    ∧ cc0_transform_6 (grid0.coords t) = ![t.val % 16, 0, 0]
    ∧ cc0_transform_7 (grid0.coords t) = ![t.val / 64, t.val / 16 % 4, 0] := by
  decide +kernel

theorem coords_2 : ∀ t : Fin grid0.N, ((grid0.coords t) 2).val = t.val % 16 := by decide +kernel

theorem entry : ∀ t : Fin grid0.N, k0_off1 (grid0.coords t) 0 = t.val := by decide +kernel

theorem first_iff : ∀ e : Fin 16, Scalar.cmpi .ne (Scalar.extui (Scalar.cmpi .eq (BitVec.ofNat 32 e.val) 0#32)) 0#32 = 1#1 ↔ e.val = 0 := by decide

section
variable (m : (ℓ : Loc nD τ sig) → Buf (Elt Ideal) ℓ) (c : Dev nD) (t : Fin (cfgA m).N)

theorem lt_N : t.val < 512 := lt_of_lt_of_eq t.isLt N_0

theorem index :
    ((cfgA m).win 0).index t = ![t.val / 64, t.val / 16 % 4, 0]
    ∧ ((cfgA m).win 1).index t = ![t.val / 64, t.val % 16, 0, t.val / 16 % 4]
    ∧ ((cfgA m).win 2).index t = ![t.val / 64, t.val / 16 % 4, 0]
    ∧ ((cfgA m).win 3).index t = ![t.val / 64, t.val / 16 % 4, 0]
    ∧ ((cfgA m).win 4).index t = ![t.val % 16, 0, 0]
    ∧ ((cfgA m).win 5).index t = ![t.val % 16, 0, 0]
    ∧ ((cfgA m).win 6).index t = ![t.val % 16, 0, 0]
    ∧ ((cfgA m).win 7).index t = ![t.val / 64, t.val / 16 % 4, 0] := maps t

/-- The batch, the token of a row of the chunk, and the expert at a grid point. -/
abbrev bt : Fin 8 := ⟨t.val / 64, by have := lt_N m t; omega⟩
abbrev tok (r : Fin 2048) : Fin 8192 := ⟨t.val / 16 % 4 * 2048 + r.val, by omega⟩
abbrev ex : Fin 16 := ⟨t.val % 16, by omega⟩

theorem word_eq : word (grid0.coords t) (tbl m) = tbl m (ix1 (⟨t.val, lt_N m t⟩ : Fin 512)) := by
  unfold word
  refine congrArg (tbl m) (funext fun a => Fin.ext ?_)
  match a with
  | ⟨0, _⟩ =>
    show k0_off1 (grid0.coords t) 0 + _ = t.val
    rw [entry]
    rfl

theorem flush_last (h : ((cfgA m).win 7).flush t = true) : t.val % 16 = 15 := by
  rw [Window.flush_eq_flushOf] at h
  unfold Window.flushOf at h
  have h := (Bool.and_eq_true _ _ ▸ h).2
  rcases Bool.or_eq_true _ _ ▸ h with h | h
  · have h : t.val + 1 = grid0.N := of_decide_eq_true h
    rw [N_0] at h
    omega
  · obtain ⟨h1, h2⟩ := of_decide_eq_true h
    by_contra hne
    refine h2 ?_
    refine ((index m ⟨t.val + 1, h1⟩).2.2.2.2.2.2.2).trans (Eq.trans ?_ ((index m t).2.2.2.2.2.2.2).symm)
    have e1 : (t.val + 1) / 64 = t.val / 64 := by omega
    have e2 : (t.val + 1) / 16 % 4 = t.val / 16 % 4 := by omega
    show ![(t.val + 1) / 64, (t.val + 1) / 16 % 4, 0] = _
    rw [e1, e2]

theorem blk0 (r : Fin 2048) (k : Fin 1024) : iblk m c 0 t (ix3 0 r k) = m ((c : Thread nD τ).loc main_arg0) (ix3 (bt m t) (tok m t r) k) := by
  blk_ext [iblk, V, index m t]

theorem blk1 (r : Fin 2048) : iblk m c 1 t (ix4 0 0 0 r) = m ((c : Thread nD τ).loc main_arg1) (ix4 (bt m t) (ex m t) 0 (tok m t r)) := by
  blk_ext [iblk, V, index m t]

theorem blk2 (r : Fin 2048) (e : Fin 16) : iblk m c 2 t (ix3 0 r e) = m ((c : Thread nD τ).loc main_arg2) (ix3 (bt m t) (tok m t r) e) := by
  blk_ext [iblk, V, index m t]

theorem blk3 (r : Fin 2048) (e : Fin 16) : iblk m c 3 t (ix3 0 r e) = m ((c : Thread nD τ).loc main_arg3) (ix3 (bt m t) (tok m t r) e) := by
  blk_ext [iblk, V, index m t]

theorem blk4 : (iblk m c 4 t : Vec Ideal S1x1024x1024 .bf16) = mat (m ((c : Thread nD τ).loc main_arg5)) (ex m t) := by
  refine funext fun (y : S1x1024x1024.Idx) => ?_
  obtain ⟨k, f, rfl⟩ : ∃ (k : Fin 1024) (f : Fin 1024), y = (ix3 (0 : Fin 1) k f : S1x1024x1024.Idx) :=
    ⟨⟨(y 1).val, (y 1).isLt⟩, ⟨(y 2).val, (y 2).isLt⟩, by blk_ext⟩
  show iblk m c 4 t (ix3 0 k f) = m ((c : Thread nD τ).loc main_arg5) (ix3 (ex m t) k f)
  blk_ext [iblk, V, index m t]

theorem blk5 : (iblk m c 5 t : Vec Ideal S1x1024x1024 .bf16) = mat (m ((c : Thread nD τ).loc main_arg6)) (ex m t) := by
  refine funext fun (y : S1x1024x1024.Idx) => ?_
  obtain ⟨k, f, rfl⟩ : ∃ (k : Fin 1024) (f : Fin 1024), y = (ix3 (0 : Fin 1) k f : S1x1024x1024.Idx) :=
    ⟨⟨(y 1).val, (y 1).isLt⟩, ⟨(y 2).val, (y 2).isLt⟩, by blk_ext⟩
  show iblk m c 5 t (ix3 0 k f) = m ((c : Thread nD τ).loc main_arg6) (ix3 (ex m t) k f)
  blk_ext [iblk, V, index m t]

theorem blk6 : (iblk m c 6 t : Vec Ideal S1x1024x1024 .bf16) = mat (m ((c : Thread nD τ).loc main_arg7)) (ex m t) := by
  refine funext fun (y : S1x1024x1024.Idx) => ?_
  obtain ⟨k, f, rfl⟩ : ∃ (k : Fin 1024) (f : Fin 1024), y = (ix3 (0 : Fin 1) k f : S1x1024x1024.Idx) :=
    ⟨⟨(y 1).val, (y 1).isLt⟩, ⟨(y 2).val, (y 2).isLt⟩, by blk_ext⟩
  show iblk m c 6 t (ix3 0 k f) = m ((c : Thread nD τ).loc main_arg7) (ix3 (ex m t) k f)
  blk_ext [iblk, V, index m t]

/-- The two layouts of the ranks agree. -/
def Layouts : Prop := ∀ (c : Dev nD) (b : Fin 8) (t : Fin 8192) (e : Fin 16),
  m ((c : Thread nD τ).loc main_arg1) (ix4 b e 0 t) = m ((c : Thread nD τ).loc main_arg2) (ix3 b t e)

/-- The ranks. -/
abbrev relc : FVec Ideal S8x8192x16 .f32 := m ((c : Thread nD τ).loc main_arg2)

/-- The ranks of a chunk's tokens for an expert are distinct slots of its `n` blocks, or no slots. -/
def Slots : Prop := ∀ (c : Dev nD) (t : Fin (cfgA m).N) (n : Fin 9), tbl m (ix1 (⟨t.val, lt_N m t⟩ : Fin 512)) = BitVec.ofNat 32 n.val → ∀ r : Fin 2048,
  (0 ≤ relc m c (ix3 (bt m t) (tok m t r) (ex m t)) ∧ ∃ k : ℕ, k < 128 * n.val
      ∧ relc m c (ix3 (bt m t) (tok m t r) (ex m t)) = slotE k
      ∧ ∀ t', relc m c (ix3 (bt m t) (tok m t t') (ex m t)) = slotE k → t' = r)
    ∨ (¬ 0 ≤ relc m c (ix3 (bt m t) (tok m t r) (ex m t))
      ∧ ∀ k : ℕ, relc m c (ix3 (bt m t) (tok m t r) (ex m t)) ≠ slotE k)

/-- The sum over the first `n` experts, of the call's arguments. -/
abbrev part (r : Fin 2048) (d : Fin 1024) (n : ℕ) : EReal :=
  upto (m ((c : Thread nD τ).loc main_arg0)) (m ((c : Thread nD τ).loc main_arg2)) (m ((c : Thread nD τ).loc main_arg3))
    (m ((c : Thread nD τ).loc main_arg5)) (m ((c : Thread nD τ).loc main_arg6)) (m ((c : Thread nD τ).loc main_arg7)) (bt m t) (tok m t r) d n

/-- What a grid point adds. -/
theorem point (hL : Layouts m) (hR : Slots m) (n : Fin 9) (hn : tbl m (ix1 (⟨t.val, lt_N m t⟩ : Fin 512)) = BitVec.ofNat 32 n.val)
    (r : Fin 2048) (d : Fin 1024) :
    part m c t r d (t.val % 16) + contrib n.val (ex m t) (iblk m c 0 t) (iblk m c 1 t) (iblk m c 2 t) (iblk m c 3 t) (iblk m c 4 t) (iblk m c 5 t) (iblk m c 6 t) r d = part m c t r d (t.val % 16 + 1) := by
  refine Eq.trans (congrArg (part m c t r d (t.val % 16) + ·) ?_) (upto_step _ _ _ _ _ _ (bt m t) (tok m t r) d (ex m t))
  refine (contrib_eq n (ex m t) (iblk m c 0 t) (iblk m c 1 t) (iblk m c 2 t) (iblk m c 3 t) (iblk m c 4 t) (iblk m c 5 t) (iblk m c 6 t) r d (fun t' => relc m c (ix3 (bt m t) (tok m t t') (ex m t)))
    (blk2 m c t r _) (fun t' => (blk1 m c t t').trans (hL c _ _ _)) (hR c t n hn r)).trans ?_
  unfold term
  rw [blk4 m c t, blk5 m c t, blk6 m c t, blk3 m c t r (ex m t), show (fun k => iblk m c 0 t (ix3 0 r k)) = _ from funext fun k => blk0 m c t r k]
end

section
variable (m : (ℓ : Loc nD τ sig) → Buf (Elt Ideal) ℓ) (ρ : Dev nD → PrngReg)

/-- What the result's block holds after a grid point: the sum over the experts so far. -/
def Rl (c : Dev nD) (t : Fin (cfgA m).N) (X : Vec Ideal S1x2048x1024 .f32) : Prop :=
  ∀ (r : Fin 2048) (d : Fin 1024), X (ix3 0 r d) = part m c t r d (t.val % 16 + 1)

theorem found (c : Dev nD) (t : Fin (cfgA m).N) (Y : Vec Ideal S1x2048x1024 .f32) (he : t.val % 16 ≠ 0)
    (hY : ((dat m c).toRRel marked (RlAll m (Rl m c))).Finds 7 t Y) (r : Fin 2048) (d : Fin 1024) :
    Y (ix3 0 r d) = part m c t r d (t.val % 16) := by
  rcases (Pipeline.RDat.finds_of_pos _ (w := 7) (t := t) rfl (by omega) Y).mp hY with h | h
  · have := flush_last m _ h
    simp only at this
    omega
  · have h : Rl m c _ Y := Dat.toRRel_leaves (dat m c) (show marked 7 = true from rfl) h
    refine (h r d).trans ?_
    have e1 : (t.val - 1) / 64 = t.val / 64 := by omega
    have e2 : (t.val - 1) / 16 % 4 = t.val / 16 % 4 := by omega
    have e3 : (t.val - 1) % 16 + 1 = t.val % 16 := by omega
    unfold part
    simp only [bt, tok, e1, e2, e3]

theorem step_first (hL : Layouts m) (hR : Slots m) (c : Dev nD) (t : Fin (cfgA m).N) (n : Fin 9) (he : t.val % 16 = 0)
    (hn : tbl m (ix1 (⟨t.val, lt_N m t⟩ : Fin 512)) = BitVec.ofNat 32 n.val) (r : Fin 2048) (d : Fin 1024) :
    0 + contrib n.val (ex m t) (iblk m c 0 t) (iblk m c 1 t) (iblk m c 2 t) (iblk m c 3 t) (iblk m c 4 t) (iblk m c 5 t) (iblk m c 6 t) r d = part m c t r d (t.val % 16 + 1) := by
  refine Eq.trans ?_ (point m c t hL hR n hn r d)
  rw [he]
  rfl

theorem body (hS : Small m) (hL : Layouts m) (hR : Slots m) (c : Dev nD) :
    BodyObligationRel (dat m c) (defs₀ (F := Ideal)) Variants.none () Set.univ marked (RlAll m (Rl m c)) := by
  have hw' : ∀ (t : Fin (cfgA m).N) (nb : Elt Ideal .i32), word (grid0.coords t) (tbl m) = nb → ∃ n : Fin 9, nb = BitVec.ofNat 32 n.val
      ∧ tbl m (ix1 (⟨t.val, lt_N m t⟩ : Fin 512)) = BitVec.ofNat 32 n.val := fun t nb h => by
    obtain ⟨n, hn⟩ := hS (ix1 (⟨t.val, lt_N m t⟩ : Fin 512))
    exact ⟨n, h.symm.trans ((word_eq m t).trans hn), hn⟩
  have h1' : ∀ t : Fin (cfgA m).N, Scalar.cmpi .ne (Scalar.extui (Scalar.cmpi .eq (BitVec.ofNat 32 ((grid0.coords t) 2).val) 0#32)) 0#32 = 1#1 ↔ t.val % 16 = 0 :=
    fun t => by rw [coords_2 t]; exact first_iff (ex m t)
  refine body_rel m hS c (Rl m c) ?_ ?_ ?_ ?_
  · intro t arg3 harg3 arg4 harg4 arg5 harg5 arg6 harg6 arg7 harg7 arg8 harg8 arg9 harg9 arg10 harg10 arg11 harg11 arg12 harg12 Y x12 nb hw hchk h2 h1 f r d
    obtain ⟨n, hn, hn'⟩ := hw' t nb hw
    exact (valFO c (grid0.coords t) arg3 harg3 arg4 harg4 arg5 harg5 arg6 harg6 arg7 harg7 arg8 harg8 arg9 harg9 arg10 harg10 arg11 harg11 arg12 harg12 (tbl m) (iblk m c 0 t) (iblk m c 1 t) (iblk m c 2 t) (iblk m c 3 t) (iblk m c 4 t) (iblk m c 5 t) (iblk m c 6 t) x12 n nb hn hchk (ex m t) (coords_2 t) hw h2 h1 f r d).trans
      (step_first m hL hR c t n ((h1' t).mp h1) hn' r d)
  · intro t arg3 harg3 arg4 harg4 arg5 harg5 arg6 harg6 arg7 harg7 arg8 harg8 arg9 harg9 arg10 harg10 arg11 harg11 arg12 harg12 Y x12 nb hw hchk h2 h1 f r d
    obtain ⟨n, hn, hn'⟩ := hw' t nb hw
    exact (valFE c (grid0.coords t) arg3 harg3 arg4 harg4 arg5 harg5 arg6 harg6 arg7 harg7 arg8 harg8 arg9 harg9 arg10 harg10 arg11 harg11 arg12 harg12 (tbl m) (iblk m c 0 t) (iblk m c 1 t) (iblk m c 2 t) (iblk m c 3 t) (iblk m c 4 t) (iblk m c 5 t) (iblk m c 6 t) x12 n nb hn hchk (ex m t) (coords_2 t) hw h2 h1 f r d).trans
      (step_first m hL hR c t n ((h1' t).mp h1) hn' r d)
  · intro t arg3 harg3 arg4 harg4 arg5 harg5 arg6 harg6 arg7 harg7 arg8 harg8 arg9 harg9 arg10 harg10 arg11 harg11 arg12 harg12 Y x12 nb hw hchk h2 h1 hY r d
    obtain ⟨n, hn, hn'⟩ := hw' t nb hw
    refine (valLO c (grid0.coords t) arg3 harg3 arg4 harg4 arg5 harg5 arg6 harg6 arg7 harg7 arg8 harg8 arg9 harg9 arg10 harg10 arg11 harg11 arg12 harg12 (tbl m) (iblk m c 0 t) (iblk m c 1 t) (iblk m c 2 t) (iblk m c 3 t) (iblk m c 4 t) (iblk m c 5 t) (iblk m c 6 t) x12 n nb hn hchk (ex m t) (coords_2 t) hw Y h2 h1 r d).trans ?_
    rw [found m c t Y (fun h => h1 ((h1' t).mpr h)) hY r d]
    exact point m c t hL hR n hn' r d
  · intro t arg3 harg3 arg4 harg4 arg5 harg5 arg6 harg6 arg7 harg7 arg8 harg8 arg9 harg9 arg10 harg10 arg11 harg11 arg12 harg12 Y x12 nb hw hchk h2 h1 hY r d
    obtain ⟨n, hn, hn'⟩ := hw' t nb hw
    refine (valLE c (grid0.coords t) arg3 harg3 arg4 harg4 arg5 harg5 arg6 harg6 arg7 harg7 arg8 harg8 arg9 harg9 arg10 harg10 arg11 harg11 arg12 harg12 (tbl m) (iblk m c 0 t) (iblk m c 1 t) (iblk m c 2 t) (iblk m c 3 t) (iblk m c 4 t) (iblk m c 5 t) (iblk m c 6 t) x12 n nb hn hchk (ex m t) (coords_2 t) hw Y h2 h1 r d).trans ?_
    rw [found m c t Y (fun h => h1 ((h1' t).mpr h)) hY r d]
    exact point m c t hL hR n hn' r d

/-- Every block of the result is some grid point's. -/
theorem covers : ((cfgA m).win 7).Covers := by
  refine ((cfgA m).win 7).covers_of_indexMap_surj rfl (show ∀ a : Fin 3, 0 < (spec0 7).size a from by decide)
    fun (β : (a : Fin 3) → Fin (((cfgA m).win 7).nblk a)) => ?_
  have h0 : (β 0).val < 8 := lt_of_lt_of_eq (β 0).isLt (show ((spec0 7).shape.size (0 : Fin 3) + (spec0 7).size (0 : Fin 3) - 1) / (spec0 7).size (0 : Fin 3) = 8 from by decide)
  have h1 : (β 1).val < 4 := lt_of_lt_of_eq (β 1).isLt (show ((spec0 7).shape.size (1 : Fin 3) + (spec0 7).size (1 : Fin 3) - 1) / (spec0 7).size (1 : Fin 3) = 4 from by decide)
  have h2 : (β 2).val < 1 := lt_of_lt_of_eq (β 2).isLt (show ((spec0 7).shape.size (2 : Fin 3) + (spec0 7).size (2 : Fin 3) - 1) / (spec0 7).size (2 : Fin 3) = 1 from by decide)
  refine ⟨(fun | 0 => ⟨(β 0).val, h0⟩ | 1 => ⟨(β 1).val, h1⟩ | 2 => ⟨0, by decide⟩ : grid0.Coords), fun (a : Fin 3) => ?_⟩
  match a with
  | 0 => exact (BitVec.toNat_ofNat _ _).trans (Nat.mod_eq_of_lt (h0.trans (by decide)))
  | 1 => exact (BitVec.toNat_ofNat _ _).trans (Nat.mod_eq_of_lt (h1.trans (by decide)))
  | 2 => exact (Nat.lt_one_iff.mp h2).symm

/-- The result's array after the run. -/
theorem arr_eq (c : Dev nD) {r : PUnit × MemSt nD τ sig (Elt Ideal)}
    (h : Pipeline.RDat.FramePost (cfgA m) (fun c => (dat m c).toRRel marked (RlAll m (Rl m c))) (V m) r) :
    r.2.mem ((c : Thread nD τ).loc main_v0) = res (m ((c : Thread nD τ).loc main_arg0)) (m ((c : Thread nD τ).loc main_arg2))
      (m ((c : Thread nD τ).loc main_arg3)) (m ((c : Thread nD τ).loc main_arg5)) (m ((c : Thread nD τ).loc main_arg6))
      (m ((c : Thread nD τ).loc main_arg7)) := by
  obtain ⟨after, hl, hm⟩ := h.exists_exact c
  refine (hm 7).trans (Dat.arrAt_eq_of_covers _ 7 _ (covers m) fun t hf (y : S1x2048x1024.Idx) => ?_)
  have hX : Rl m c t (after 7 t) := Dat.toRRel_leaves (dat m c) (show marked 7 = true from rfl) (hl 7 t hf)
  have ht := flush_last m t hf
  obtain ⟨s, d, rfl⟩ : ∃ (s : Fin 2048) (d : Fin 1024), y = (ix3 (0 : Fin 1) s d : S1x2048x1024.Idx) :=
    ⟨⟨(y 1).val, (y 1).isLt⟩, ⟨(y 2).val, (y 2).isLt⟩, by blk_ext⟩
  blk_simp
  refine (hX s d).trans ?_
  rw [ht]
  refine (res_at _ _ _ _ _ _ _ (bt m t) (tok m t s) d ?_ ?_ ?_).symm
  · blk_simp [index m t]
    exact Nat.add_zero _
  · blk_simp [index m t]
  · blk_simp [index m t]

/-- The run: the result is the layer, and the arguments end unchanged. -/
theorem run_res (hS : Small m) (hL : Layouts m) (hR : Slots m) :
    θ_run defs (onTc (τ := τ) (main (F := Ideal))) ⟨m, fun _ => 0, ρ⟩ (fun r => ∀ c : Dev nD,
      r.2.mem ((c.tc : Thread nD τ).loc main_v0) = res (m ((c.tc : Thread nD τ).loc main_arg0)) (m ((c.tc : Thread nD τ).loc main_arg2))
        (m ((c.tc : Thread nD τ).loc main_arg3)) (m ((c.tc : Thread nD τ).loc main_arg5)) (m ((c.tc : Thread nD τ).loc main_arg6))
        (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨arr_eq m c h.1, args_of m (Rl m) h.1 c⟩)
    (run_rel m ρ hS (Rl m) fun c => body m hS hL hR c)
end

end Cert.Kernel3Ideal.Moe
end
-- ==== Proof.MoeRef.lean ====
/-
  The reference of the expert layer over the extended reals: its result at batch `b`, token `t`, column `d` is the sum over the
  experts of the gated layer of the token's row, times its gate, where the token has a rank (`result_eq`).
-/
module

public import proofs.«01_k».proof.Proof.Gen.Reference3Ideal.Run
public import proofs.«01_k».proof.Proof.RowMax
public import Idealize.ShloMosaic.Lib.Pointwise

@[expose] public section

set_option maxRecDepth 16384
set_option maxHeartbeats 1000000

noncomputable section

namespace Cert.Reference3Ideal.Experts

open Cert.Reference3Ideal Cert.Reference3Ideal.Gen Idealize.ShloMosaic Idealize.ShloMosaic.TcCoe Idealize.SL.Sem
open Cert.Reference3Ideal.Facts

variable (a0 : FVec Ideal S8x8192x1024 .bf16) (a2 a3 : FVec Ideal S8x8192x16 .f32) (a5 a6 a7 w : FVec Ideal S16x1024x1024 .bf16)

/-- Every token's row through every expert's matrix. -/
def hidden : FVec Ideal S8x16x8192x1024 .f32 :=
  transpose S8x16x8192x1024 [2, 0, 3, 1] (Host.dotGeneral dot_S16x1024x1024_S8x8192x1024_S16x1024x8x8192_1_2_02_01_n_n none (extf .f32 w bitsLt_bf16_f32) (extf .f32 a0 bitsLt_bf16_f32) : FVec Ideal S16x1024x8x8192 .f32) transposes_S16x1024x8x8192_S8x16x8192x1024_2_0_3_1

theorem hidden_eq (b : Fin 8) (e : Fin 16) (t : Fin 8192) (f : Fin 1024) : hidden a0 w (ix4 b e t f) = ∑ k : Fin 1024, a0 (ix3 b t k) * w (ix3 e k f) := by
  pointwise [hidden]
  exact Finset.sum_congr rfl fun _ _ => mul_comm _ _

/-- The gated hidden values. -/
def gated (g u : FVec Ideal S8x16x8192x1024 .f32) : FVec Ideal S8x16x8192x1024 .f32 :=
  mulf (mulf g (Host.divf (broadcastInDim S8x16x8192x1024 ![] bcast_S_S8x16x8192x1024 (constant S_ .f32 0x3F800000#32)) (addf (broadcastInDim S8x16x8192x1024 ![] bcast_S_S8x16x8192x1024 (constant S_ .f32 0x3F800000#32)) (Host.exp (Host.negf g))))) u

theorem gated_eq (g u : FVec Ideal S8x16x8192x1024 .f32) (b : Fin 8) (e : Fin 16) (t : Fin 8192) (f : Fin 1024) : gated g u (ix4 b e t f)
    = g (ix4 b e t f) * Ideal.div 1 (1 + Ideal.exp (-g (ix4 b e t f))) * u (ix4 b e t f) := by
  pointwise [gated]

/-- The experts' outputs, weighted, where the token has a rank; summed over the experts. -/
def outs (h : FVec Ideal S8x16x8192x1024 .f32) : FVec Ideal S8x8192x1024 .f32 :=
  Host.reduceAdd (select (broadcastInDim S8x16x8192x1024 ![0, 1, 2, 3] bcast_S8x16x8192x1_S8x16x8192x1024_0_1_2_3 (broadcastInDim S8x16x8192x1 ![0, 1, 2] bcast_S8x16x8192_S8x16x8192x1_0_1_2 (transpose S8x16x8192 [0, 2, 1] (cmpf .oge a2 (broadcastInDim S8x8192x16 ![] bcast_S_S8x8192x16 (constant S_ .f32 0x00000000#32))) transposes_S8x8192x16_S8x16x8192_0_2_1))) (mulf (transpose S8x16x8192x1024 [2, 0, 3, 1] (Host.dotGeneral dot_S16x1024x1024_S8x16x8192x1024_S16x1024x8x8192_1_3_2_02_0_1 none (extf .f32 a7 bitsLt_bf16_f32) h : FVec Ideal S16x1024x8x8192 .f32) transposes_S16x1024x8x8192_S8x16x8192x1024_2_0_3_1) (broadcastInDim S8x16x8192x1024 ![0, 1, 2, 3] bcast_S8x16x8192x1_S8x16x8192x1024_0_1_2_3 (broadcastInDim S8x16x8192x1 ![0, 1, 2] bcast_S8x16x8192_S8x16x8192x1_0_1_2 (transpose S8x16x8192 [0, 2, 1] a3 transposes_S8x8192x16_S8x16x8192_0_2_1)))) (broadcastInDim S8x16x8192x1024 ![] bcast_S_S8x16x8192x1024 (constant S_ .f32 0x00000000#32))) (constant S_ .f32 0x00000000#32) reducesTo_S8x16x8192x1024_S8x8192x1024_d1 h_S_

theorem outs_eq (h : FVec Ideal S8x16x8192x1024 .f32) (b : Fin 8) (t : Fin 8192) (d : Fin 1024) : outs a2 a3 a7 h (ix3 b t d)
    = ∑ e : Fin 16, if 0 ≤ a2 (ix3 b t e) then (∑ f : Fin 1024, h (ix4 b e t f) * a7 (ix3 e f d)) * a3 (ix3 b t e) else 0 := by
  pointwise [outs]
  refine Finset.sum_congr rfl fun e _ => ?_
  split
  · exact congrArg (· * _) (Finset.sum_congr rfl fun f _ => mul_comm _ _)
  · rfl

theorem result_eq (b : Fin 8) (t : Fin 8192) (d : Fin 1024) : outs a2 a3 a7 (gated (hidden a0 a5) (hidden a0 a6)) (ix3 b t d)
    = ∑ e : Fin 16, if 0 ≤ a2 (ix3 b t e) then
        (∑ f : Fin 1024, ((∑ k : Fin 1024, a0 (ix3 b t k) * a5 (ix3 e k f)) * Ideal.div 1 (1 + Ideal.exp (-(∑ k : Fin 1024, a0 (ix3 b t k) * a5 (ix3 e k f))))
          * (∑ k : Fin 1024, a0 (ix3 b t k) * a6 (ix3 e k f))) * a7 (ix3 e f d)) * a3 (ix3 b t e) else 0 := by
  rw [outs_eq]
  refine Finset.sum_congr rfl fun e _ => ?_
  congr 2
  refine Finset.sum_congr rfl fun f _ => ?_
  rw [gated_eq, hidden_eq, hidden_eq]

/-- The reference's run. -/
theorem run_outs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = outs (m ((c.tc : Thread nD τ).loc main_arg2)) (m ((c.tc : Thread nD τ).loc main_arg3))
          (m ((c.tc : Thread nD τ).loc main_arg7)) (gated (hidden (m ((c.tc : Thread nD τ).loc main_arg0)) (m ((c.tc : Thread nD τ).loc main_arg5)))
            (hidden (m ((c.tc : Thread nD τ).loc main_arg0)) (m ((c.tc : Thread nD τ).loc main_arg6))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Value.run (F := Ideal) m ρ

end Cert.Reference3Ideal.Experts
end
-- ==== Proof.Ranked.lean ====
/-
  What the precondition of the expert layer says: the counts of slot blocks are at most eight, the two layouts of the ranks
  agree, and the ranks of a chunk's tokens for an expert are distinct slots of that expert's blocks, or minus one.
-/
module

public import proofs.«01_k».proof.Pre_ranked
public import proofs.«01_k».proof.Proof.Finite
public import proofs.«01_k».proof.Proof.RowMax
public import proofs.«01_k».proof.Proof.Ranks

@[expose] public section

set_option maxRecDepth 16384
set_option maxHeartbeats 1000000

noncomputable section

namespace Cert.Pre_ranked

open Idealize.ShloMosaic Cert.Finite Cert.Kernel3Ideal.Moe

theorem facts : Facts := by constructor <;> decide

attribute [instance] facts

theorem small_of_bits (x : BitVec 32) (h : IntOp.andi (IntOp.cmpi CmpIPredicate.sge x 0#32) (IntOp.cmpi CmpIPredicate.sle x 8#32) = 1#1) :
    ∃ n : Fin 9, x = BitVec.ofNat 32 n.val := by
  have h2 : BitVec.ofBool ((0#32).sle x) &&& BitVec.ofBool (x.sle 8#32) = 1#1 := h
  have h0 : (0#32).sle x = true := by
    cases hx : (0#32).sle x
    · rw [hx] at h2; revert h2; cases x.sle 8#32 <;> decide
    · rfl
  have h8 : x.sle 8#32 = true := by
    cases hx : x.sle 8#32
    · rw [hx] at h2; revert h2; cases (0#32).sle x <;> decide
    · rfl
  have i0 : (0 : ℤ) ≤ x.toInt := by simpa [BitVec.sle] using h0
  have i8 : x.toInt ≤ 8 := by simpa [BitVec.sle] using h8
  have hn : x.toNat ≤ 8 := by
    have := BitVec.toInt_eq_toNat_cond x
    have := x.isLt
    split_ifs at * <;> omega
  exact ⟨⟨x.toNat, by omega⟩, by simp⟩

section
variable {F : FTy → Type} [FloatOps F] (a0 : FVec F S8x8192x1024 .bf16) (a1 : FVec F S8x16x1x8192 .f32) (a2 : FVec F S8x8192x16 .f32)
  (a3 : FVec F S8x8192x16 .f32) (a4 : IVec S512 32) (a5 a6 a7 : FVec F S16x1024x1024 .bf16)

theorem small_at (h : (fn a0 a1 a2 a3 a4 a5 a6 a7).2.2.2 = fun _ => 1#1) (j : Fin 512) : ∃ n : Fin 9, a4 (ix1 j) = BitVec.ofNat 32 n.val := by
  have hi := congrFun h (ix4 (⟨j.val / 64, by omega⟩ : Fin 8) (⟨j.val % 16, by omega⟩ : Fin 16) (⟨j.val / 16 % 4, by omega⟩ : Fin 4) 0)
  pointwise [fn, fn_part1, fn_part2] at hi
  obtain ⟨n, hn⟩ := small_of_bits _ hi
  refine ⟨n, Eq.trans (congrArg a4 (congrArg ix1 (Fin.ext ?_))) hn⟩
  have : j.val = j.val / 64 * 64 + j.val / 16 % 4 * 16 + j.val % 16 := by omega
  first
    | exact this
    | rfl

theorem small (h : (fn a0 a1 a2 a3 a4 a5 a6 a7).2.2.2 = fun _ => 1#1) (x : S512.Idx) : ∃ n : Fin 9, a4 x = BitVec.ofNat 32 n.val := by
  idx_vars x
  exact small_at a0 a1 a2 a3 a4 a5 a6 a7 h _
end

section
variable (a0 : FVec Ideal S8x8192x1024 .bf16) (a1 : FVec Ideal S8x16x1x8192 .f32) (a2 : FVec Ideal S8x8192x16 .f32)
  (a3 : FVec Ideal S8x8192x16 .f32) (a4 : IVec S512 32) (a5 a6 a7 : FVec Ideal S16x1024x1024 .bf16)

theorem layouts (h : (fn a0 a1 a2 a3 a4 a5 a6 a7).2.1 = fun _ => 1#1) (b : Fin 8) (t : Fin 8192) (e : Fin 16) :
    a1 (ix4 b e 0 t) = a2 (ix3 b t e) := by
  have hi := congrFun h (ix4 b e 0 t)
  pointwise [fn, fn_part1, fn_part2] at hi
  exact of_bit hi

theorem ofBits_128 : Ideal.ofBits FTy.f32 1124073472#32 = ((128 : ℝ) : EReal) := by
  simp [Ideal.ofBits, Ideal.ieee]
  rw [← EReal.coe_mul]
  norm_num

theorem ofBits_neg_one : Ideal.ofBits FTy.f32 3212836864#32 = (-1 : EReal) := by
  simp [Ideal.ofBits, Ideal.ieee]
  rw [← EReal.coe_mul]
  norm_num

theorem bound (h : (fn a0 a1 a2 a3 a4 a5 a6 a7).2.2.1 = fun _ => 1#1) (b : Fin 8) (s : Fin 4) (t : Fin 2048) (e : Fin 16) (n : Fin 9)
    (hn : a4 (ix1 (⟨b.val * 64 + s.val * 16 + e.val, by omega⟩ : Fin 512)) = BitVec.ofNat 32 n.val) :
    a2 (ix3 b (⟨s.val * 2048 + t.val, by omega⟩ : Fin 8192) e) < slotE (128 * n.val) := by
  have hi := congrFun h (ix4 b e s t)
  pointwise [fn, fn_part1, fn_part2] at hi
  refine lt_of_lt_of_eq (of_bit hi) ?_
  rw [hn, sitofp_small _ (by have := n.isLt; omega), ofBits_128]
  unfold slotE
  rw [← EReal.coe_mul]
  push_cast
  rfl

theorem ge_bits (x t : Fin 2048) : IntOp.cmpi CmpIPredicate.sge (BitVec.ofNat 32 t.val) (BitVec.ofNat 32 x.val) = BitVec.ofBool (decide (x ≤ t)) := by
  have e : ∀ y : Fin 2048, (BitVec.ofNat 32 y.val).toInt = (y.val : ℤ) := fun y => by
    have := y.isLt
    rw [BitVec.toInt_eq_toNat_of_lt]
    · rw [BitVec.toNat_ofNat, Nat.mod_eq_of_lt (by omega)]
    · rw [BitVec.toNat_ofNat, Nat.mod_eq_of_lt (by omega)]; omega
  show BitVec.ofBool ((BitVec.ofNat 32 x.val).sle (BitVec.ofNat 32 t.val)) = _
  congr 1
  unfold BitVec.sle
  rw [e, e]
  exact decide_eq_decide.mpr (by rw [Fin.le_def]; omega)

theorem ranks (h : (fn a0 a1 a2 a3 a4 a5 a6 a7).1 = fun _ => 1#1) (b : Fin 8) (s : Fin 4) (e : Fin 16) (t : Fin 2048) :
    a2 (ix3 b (⟨s.val * 2048 + t.val, by omega⟩ : Fin 8192) e) = if 0 ≤ a2 (ix3 b (⟨s.val * 2048 + t.val, by omega⟩ : Fin 8192) e) then
      (∑ x : Fin 2048, if x ≤ t ∧ 0 ≤ a2 (ix3 b (⟨s.val * 2048 + x.val, by omega⟩ : Fin 8192) e) then (1 : EReal) else 0) - 1 else -1 := by
  have hi := congrFun h (ix4 b e s t)
  pointwise [fn, fn_part1, fn_part2, fn_where, fn_where_0] at hi
  dsimp only [id] at hi
  pointwise at hi
  have hi := of_bit hi
  rw [ofBits_neg_one] at hi
  refine hi.trans ?_
  congr 2
  refine Finset.sum_congr rfl fun x _ => ?_
  rw [ge_bits]
  by_cases h1 : x ≤ t <;> by_cases h2 : 0 ≤ a2 (ix3 b (⟨s.val * 2048 + x.val, by omega⟩ : Fin 8192) e) <;> simp [h1, h2, IntOp.andi, Scalar.select]
end

end Cert.Pre_ranked
end
-- ==== Proof.Fits.lean ====
/-
  What the precondition `fits` says: the counts of slot blocks are at most eight.
-/
module

public import proofs.«01_k».proof.Pre_fits
public import proofs.«01_k».proof.Proof.Ranked

@[expose] public section

set_option maxRecDepth 16384

noncomputable section

namespace Cert.Pre_fits

open Idealize.ShloMosaic

theorem facts : Facts := by constructor <;> decide

attribute [instance] facts

variable {F : FTy → Type} [FloatOps F] (a0 : FVec F S8x8192x1024 .bf16) (a1 : FVec F S8x16x1x8192 .f32) (a2 : FVec F S8x8192x16 .f32)
  (a3 : FVec F S8x8192x16 .f32) (a4 : IVec S512 32) (a5 a6 a7 : FVec F S16x1024x1024 .bf16)

theorem small_at (h : fn a0 a1 a2 a3 a4 a5 a6 a7 = fun _ => 1#1) (j : Fin 512) : ∃ n : Fin 9, a4 (ix1 j) = BitVec.ofNat 32 n.val := by
  have hi := congrFun h (ix1 j)
  pointwise [fn] at hi
  exact Cert.Pre_ranked.small_of_bits _ hi

theorem small (h : fn a0 a1 a2 a3 a4 a5 a6 a7 = fun _ => 1#1) (x : S512.Idx) : ∃ n : Fin 9, a4 x = BitVec.ofNat 32 n.val := by
  idx_vars x
  exact small_at a0 a1 a2 a3 a4 a5 a6 a7 h _

end Cert.Pre_fits

end
-- ==== Proof.Moe.lean ====
/-
  The claims about the expert layer: the frames of the three programs, and the value claim.
-/
module

public import proofs.«01_k».proof.Defs
public import proofs.«01_k».proof.Proof.Gen.Pre_ranked
public import proofs.«01_k».proof.Proof.MoeFrame
public import proofs.«01_k».proof.Proof.MoeValue
public import proofs.«01_k».proof.Proof.MoeRef
public import proofs.«01_k».proof.Proof.Ranked
public import proofs.«01_k».proof.Proof.Fits

@[expose] public section

set_option maxRecDepth 16384

noncomputable section

namespace Cert.Moe

open Idealize.ShloMosaic Idealize.ShloMosaic.TcCoe Idealize.SL.Sem

attribute [local instance] Cert.Kernel3.Gen.facts Cert.Kernel3Ideal.Gen.facts Cert.Reference3Ideal.Gen.facts

theorem frame_p : Cert.quiescent_Kernel3 := fun m ρ hpre =>
  Cert.Kernel3.Moe.frame m ρ fun x => Cert.Pre_fits.small _ _ _ _ _ _ _ _ (hpre 0) x

theorem frame_pi : Cert.quiescent_Kernel3Ideal := fun m ρ hpre =>
  Cert.Kernel3Ideal.Moe.frame m ρ fun x => Cert.Pre_fits.small _ _ _ _ _ _ _ _ (hpre 0) x

theorem frame_pi_ranked : Cert.quiescent_Kernel3Ideal_pre_ranked := fun m ρ hpre =>
  Cert.Kernel3Ideal.Moe.frame m ρ fun x => Cert.Pre_ranked.small _ _ _ _ _ _ _ _ (hpre 0).2.2.2 x

/-- The reference's frame, off its generated run; it declares no semaphore. -/
theorem frame_ri : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_ri_ranked : Cert.quiescent_Reference3Ideal_pre_ranked := fun m ρ _ => frame_ri m ρ trivial

section
open Cert.Kernel3Ideal Cert.Kernel3Ideal.Moe
variable (m : (ℓ : Loc nD τ sig) → Buf (Elt Ideal) ℓ)

theorem slots (hpre : Cert.Pre_Kernel3Ideal_ranked m) : Slots m := fun c t n hn r => by
  have hc : (0 : Dev nD) = c := Subsingleton.elim _ _
  have ht := lt_N m t
  refine Cert.Ranks.of_ranks (fun t' => relc m c (ix3 (bt m t) (tok m t t') (ex m t))) n.val
    (fun t' => Cert.Pre_ranked.ranks _ _ _ _ _ _ _ _ (hpre c).1 (bt m t) ⟨t.val / 16 % 4, by omega⟩ (ex m t) t')
    (fun t' => Cert.Pre_ranked.bound _ _ _ _ _ _ _ _ (hpre c).2.2.1 (bt m t) ⟨t.val / 16 % 4, by omega⟩ t' (ex m t) n ?_) r
  subst hc
  refine Eq.trans (congrArg (tbl m) (congrArg ix1 (Fin.ext ?_))) hn
  show t.val / 64 * 64 + t.val / 16 % 4 * 16 + t.val % 16 = t.val
  omega
end

/-- The two ways of writing the gate of a hidden value agree, whatever the value is. -/
theorem gate_eq (x : EReal) : Ideal.div x (1 + Ideal.exp (0 - x)) = x * Ideal.div 1 (1 + Ideal.exp (-x)) := by
  have h : (1 : EReal) + Ideal.exp (-x) ≠ 0 := by
    have h0 : (0 : EReal) ≤ Ideal.exp (-x) := by
      induction (-x) using EReal.rec with
      | bot => exact le_refl _
      | coe r => exact EReal.coe_nonneg.mpr (Real.exp_pos r).le
      | top => exact le_top
    exact (lt_of_lt_of_le zero_lt_one (le_add_of_nonneg_right h0)).ne'
  rw [zero_sub]
  unfold Ideal.div
  rw [if_neg h, if_neg h, one_mul]

/-- From ranks that are slots the kernel and the reference leave the same array. -/
theorem algebraic : Cert.algebraic_Kernel3Ideal_Reference3Ideal_pre_ranked := by
  intro m ρ m' ρ' hpre hagree
  refine ⟨fun c => Cert.Kernel3Ideal.Moe.res (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
    (m ((c.tc : Thread Cert.Kernel3Ideal.nD Cert.Kernel3Ideal.τ).loc Cert.Kernel3Ideal.main_arg5))
    (m ((c.tc : Thread Cert.Kernel3Ideal.nD Cert.Kernel3Ideal.τ).loc Cert.Kernel3Ideal.main_arg6))
    (m ((c.tc : Thread Cert.Kernel3Ideal.nD Cert.Kernel3Ideal.τ).loc Cert.Kernel3Ideal.main_arg7)), ?_, ?_⟩
  · exact Cert.Kernel3Ideal.Moe.run_res m ρ (fun x => Cert.Pre_ranked.small _ _ _ _ _ _ _ _ (hpre 0).2.2.2 x)
      (fun c b t e => Cert.Pre_ranked.layouts _ _ _ _ _ _ _ _ (hpre c).2.1 b t e) (slots m hpre)
  · refine (θ_run Cert.Reference3Ideal.defs _ _).mono (fun r h c => ⟨(h c).1.trans ?_, (h c).2⟩) (Cert.Reference3Ideal.Experts.run_outs m' ρ')
    rw [(hagree c).1, (hagree c).2.2.1, (hagree c).2.2.2.1, (hagree c).2.2.2.2.2.1, (hagree c).2.2.2.2.2.2.1, (hagree c).2.2.2.2.2.2.2]
    funext i
    idx_vars i
    refine (Cert.Reference3Ideal.Experts.result_eq _ _ _ _ _ _ _ _ _).trans (Eq.trans ?_ (Cert.Kernel3Ideal.Moe.upto_all _ _ _ _ _ _ _ _ _).symm)
    refine Finset.sum_congr rfl fun e _ => ?_
    unfold Cert.Kernel3Ideal.Moe.term Cert.Kernel3Ideal.Moe.ffn Cert.Kernel3Ideal.Moe.hid
    refine if_congr Iff.rfl (congrArg (· * _) (Finset.sum_congr rfl fun f _ => ?_)) rfl
    rw [gate_eq]
    rfl

end Cert.Moe

end
-- ==== Proof.lean ====
/- The claims, each by the module that proves it: the two attention calls, then the expert layer. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Flash
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Flash
public import proofs.«01_k».proof.Proof.Gen.Reference3Ideal
public import proofs.«01_k».proof.Proof.Gen.Pre_finite
public import proofs.«01_k».proof.Proof.Gen.Pre_finite2
public import proofs.«01_k».proof.Proof.Gen.Pre_ranked
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Reference3Ideal.Run
public import proofs.«01_k».proof.Proof.Attention
public import proofs.«01_k».proof.Proof.Attention2
public import proofs.«01_k».proof.Proof.Moe
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite.Gen.facts, Cert.Pre_finite2.Gen.facts, Cert.Pre_fits.facts, Cert.Pre_ranked.Gen.facts,
  Cert.Attention.frame_p, Cert.Attention.frame_pi, Cert.Attention.frame_pi_finite, Cert.Attention.frame_ri,
  Cert.Attention.frame_ri_finite,
  Cert.Attention2.frame_p, Cert.Attention2.frame_pi, Cert.Attention2.frame_pi_finite, Cert.Attention2.frame_ri,
  Cert.Attention2.frame_ri_finite,
  Cert.Moe.frame_p, Cert.Moe.frame_pi, Cert.Moe.frame_pi_ranked, Cert.Moe.frame_ri, Cert.Moe.frame_ri_ranked,
  trivial, Cert.Attention.algebraic, trivial, Cert.Attention2.algebraic, trivial, Cert.Moe.algebraic⟩

end Cert.Proof

end
